-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v12_0)) (v1 : (c : Dev Cert.KernelIdeal.nD) → Buf (Elt Ideal) ((c.tc : Thread Cert.KernelIdeal.nD Cert.KernelIdeal.τ).loc Cert.KernelIdeal.main_v12_1)) (v2 : (c : Dev Cert.KernelIdeal.nD) → Buf (Elt Ideal) ((c.tc : Thread Cert.KernelIdeal.nD Cert.KernelIdeal.τ).loc Cert.KernelIdeal.main_v12_2)) (v3 : (c : Dev Cert.KernelIdeal.nD) → Buf (Elt Ideal) ((c.tc : Thread Cert.KernelIdeal.nD Cert.KernelIdeal.τ).loc Cert.KernelIdeal.main_v1_0)) (v4 : (c : Dev Cert.KernelIdeal.nD) → Buf (Elt Ideal) ((c.tc : Thread Cert.KernelIdeal.nD Cert.KernelIdeal.τ).loc Cert.KernelIdeal.main_v1_1)) (v5 : (c : Dev Cert.KernelIdeal.nD) → Buf (Elt Ideal) ((c.tc : Thread Cert.KernelIdeal.nD Cert.KernelIdeal.τ).loc Cert.KernelIdeal.main_v1_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12_0) = v0 c
          ∧ r.2.mem ((c.tc : Thread Cert.KernelIdeal.nD Cert.KernelIdeal.τ).loc Cert.KernelIdeal.main_v12_1) = v1 c
          ∧ r.2.mem ((c.tc : Thread Cert.KernelIdeal.nD Cert.KernelIdeal.τ).loc Cert.KernelIdeal.main_v12_2) = v2 c
          ∧ r.2.mem ((c.tc : Thread Cert.KernelIdeal.nD Cert.KernelIdeal.τ).loc Cert.KernelIdeal.main_v1_0) = v3 c
          ∧ r.2.mem ((c.tc : Thread Cert.KernelIdeal.nD Cert.KernelIdeal.τ).loc Cert.KernelIdeal.main_v1_1) = v4 c
          ∧ r.2.mem ((c.tc : Thread Cert.KernelIdeal.nD Cert.KernelIdeal.τ).loc Cert.KernelIdeal.main_v1_2) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v106) = v0 c
          ∧ r.2.mem ((c.tc : Thread Cert.ReferenceIdeal.nD Cert.ReferenceIdeal.τ).loc Cert.ReferenceIdeal.main_v107) = v1 c
          ∧ r.2.mem ((c.tc : Thread Cert.ReferenceIdeal.nD Cert.ReferenceIdeal.τ).loc Cert.ReferenceIdeal.main_v108) = v2 c
          ∧ r.2.mem ((c.tc : Thread Cert.ReferenceIdeal.nD Cert.ReferenceIdeal.τ).loc Cert.ReferenceIdeal.main_v26_0) = v3 c
          ∧ r.2.mem ((c.tc : Thread Cert.ReferenceIdeal.nD Cert.ReferenceIdeal.τ).loc Cert.ReferenceIdeal.main_v26_1) = v4 c
          ∧ r.2.mem ((c.tc : Thread Cert.ReferenceIdeal.nD Cert.ReferenceIdeal.τ).loc Cert.ReferenceIdeal.main_v26_2) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S80x256 : Shape := ⟨2, ![80, 256]⟩
abbrev S256 : Shape := ⟨1, ![256]⟩
abbrev S256x256 : Shape := ⟨2, ![256, 256]⟩
abbrev S80x2560x8 : Shape := ⟨3, ![80, 2560, 8]⟩
abbrev S80x2560 : Shape := ⟨2, ![80, 2560]⟩
abbrev S80 : Shape := ⟨1, ![80]⟩
abbrev S1x256 : Shape := ⟨2, ![1, 256]⟩
abbrev S80x128 : Shape := ⟨2, ![80, 128]⟩
abbrev S4x80x8 : Shape := ⟨3, ![4, 80, 8]⟩
abbrev S80x1 : Shape := ⟨2, ![80, 1]⟩
abbrev S256x128 : Shape := ⟨2, ![256, 128]⟩
abbrev S80x8 : Shape := ⟨2, ![80, 8]⟩
abbrev S1x80x8 : Shape := ⟨3, ![1, 80, 8]⟩
abbrev S10x8x20x128x8 : Shape := ⟨5, ![10, 8, 20, 128, 8]⟩
abbrev S10x20x8x8x128 : Shape := ⟨5, ![10, 20, 8, 8, 128]⟩
abbrev S200x8x8x128 : Shape := ⟨4, ![200, 8, 8, 128]⟩
abbrev S10x8x20x128 : Shape := ⟨4, ![10, 8, 20, 128]⟩
abbrev S10x20x8x128 : Shape := ⟨4, ![10, 20, 8, 128]⟩
abbrev S1600x128 : Shape := ⟨2, ![1600, 128]⟩
abbrev S8x128 : Shape := ⟨2, ![8, 128]⟩
abbrev S4x8x8 : Shape := ⟨3, ![4, 8, 8]⟩
abbrev S20x8x8x128 : Shape := ⟨4, ![20, 8, 8, 128]⟩
abbrev S160x128 : Shape := ⟨2, ![160, 128]⟩
abbrev S8x2560 : Shape := ⟨2, ![8, 2560]⟩
abbrev S1 : Shape := ⟨1, ![1]⟩
abbrev S8x1 : Shape := ⟨2, ![8, 1]⟩
abbrev S1x8x1 : Shape := ⟨3, ![1, 8, 1]⟩
abbrev S1x1x8x128 : Shape := ⟨4, ![1, 1, 8, 128]⟩

abbrev nBuf : Space → Nat
  | .hbm => 27
  | .vmem => 25
  | .smem => 1
  | _ => 0

abbrev bufTy : (tb : Table) → Fin (tcTables nBuf tb) → BufTy
  | .hbm, ⟨0, _⟩ => ⟨S80x256, .f32⟩
  | .hbm, ⟨1, _⟩ => ⟨S256, .f32⟩
  | .hbm, ⟨2, _⟩ => ⟨S256x256, .f32⟩
  | .hbm, ⟨3, _⟩ => ⟨S80x256, .f32⟩
  | .hbm, ⟨4, _⟩ => ⟨S80x2560x8, .i32⟩
  | .hbm, ⟨5, _⟩ => ⟨S80x2560, .f32⟩
  | .hbm, ⟨6, _⟩ => ⟨S80x2560, .f32⟩
  | .hbm, ⟨7, _⟩ => ⟨S80, .i32⟩
  | .hbm, ⟨8, _⟩ => ⟨S1x256, .f32⟩
  | .hbm, ⟨9, _⟩ => ⟨S80x256, .i8⟩
  | .hbm, ⟨10, _⟩ => ⟨S80, .f32⟩
  | .hbm, ⟨11, _⟩ => ⟨S80, .f32⟩
  | .hbm, ⟨12, _⟩ => ⟨S80x128, .f32⟩
  | .hbm, ⟨13, _⟩ => ⟨S4x80x8, .i32⟩
  | .hbm, ⟨14, _⟩ => ⟨S80x2560x8, .i32⟩
  | .hbm, ⟨15, _⟩ => ⟨S10x8x20x128x8, .i32⟩
  | .hbm, ⟨16, _⟩ => ⟨S10x20x8x8x128, .i32⟩
  | .hbm, ⟨17, _⟩ => ⟨S200x8x8x128, .i32⟩
  | .hbm, ⟨18, _⟩ => ⟨S10x8x20x128, .f32⟩
  | .hbm, ⟨19, _⟩ => ⟨S10x20x8x128, .f32⟩
  | .hbm, ⟨20, _⟩ => ⟨S1600x128, .f32⟩
  | .hbm, ⟨21, _⟩ => ⟨S10x8x20x128, .f32⟩
  | .hbm, ⟨22, _⟩ => ⟨S10x20x8x128, .f32⟩
  | .hbm, ⟨23, _⟩ => ⟨S1600x128, .f32⟩
  | .hbm, ⟨24, _⟩ => ⟨S80x2560, .f32⟩
  | .hbm, ⟨25, _⟩ => ⟨S80x2560, .f32⟩
  | .hbm, ⟨26, _⟩ => ⟨S80x2560, .f32⟩
  | .local _ .vmem, ⟨0, _⟩ => ⟨S80x256, .f32⟩
  | .local _ .vmem, ⟨1, _⟩ => ⟨S1x256, .f32⟩
  | .local _ .vmem, ⟨2, _⟩ => ⟨S256x256, .f32⟩
  | .local _ .vmem, ⟨3, _⟩ => ⟨S80x256, .f32⟩
  | .local _ .vmem, ⟨4, _⟩ => ⟨S80x256, .i8⟩
  | .local _ .vmem, ⟨5, _⟩ => ⟨S80, .f32⟩
  | .local _ .vmem, ⟨6, _⟩ => ⟨S80, .f32⟩
  | .local _ .vmem, ⟨7, _⟩ => ⟨S80x128, .f32⟩
  | .local _ .vmem, ⟨8, _⟩ => ⟨S4x80x8, .i32⟩
  | .local _ .vmem, ⟨9, _⟩ => ⟨S8x128, .f32⟩
  | .local _ .vmem, ⟨10, _⟩ => ⟨S8x128, .f32⟩
  | .local _ .vmem, ⟨11, _⟩ => ⟨S4x8x8, .i32⟩
  | .local _ .vmem, ⟨12, _⟩ => ⟨S4x8x8, .i32⟩
  | .local _ .vmem, ⟨13, _⟩ => ⟨S20x8x8x128, .i32⟩
  | .local _ .vmem, ⟨14, _⟩ => ⟨S20x8x8x128, .i32⟩
  | .local _ .vmem, ⟨15, _⟩ => ⟨S160x128, .f32⟩
  | .local _ .vmem, ⟨16, _⟩ => ⟨S160x128, .f32⟩
  | .local _ .vmem, ⟨17, _⟩ => ⟨S160x128, .f32⟩
  | .local _ .vmem, ⟨18, _⟩ => ⟨S160x128, .f32⟩
  | .local _ .vmem, ⟨19, _⟩ => ⟨S8x2560, .f32⟩
  | .local _ .vmem, ⟨20, _⟩ => ⟨S8x2560, .f32⟩
  | .local _ .vmem, ⟨21, _⟩ => ⟨S8x2560, .f32⟩
  | .local _ .vmem, ⟨22, _⟩ => ⟨S8x2560, .f32⟩
  | .local _ .vmem, ⟨23, _⟩ => ⟨S8x2560, .f32⟩
  | .local _ .vmem, ⟨24, _⟩ => ⟨S8x2560, .f32⟩
  | .local _ .smem, ⟨0, _⟩ => ⟨S80, .i32⟩
  | _, _ => ⟨S80x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .smem, ⟨0, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v1_3 : Ref sig .tc := ⟨.hbm, 12, rfl⟩
abbrev main_v1_4 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12_0 : Ref sig .tc := ⟨.hbm, 24, rfl⟩
abbrev main_v12_1 : Ref sig .tc := ⟨.hbm, 25, rfl⟩
abbrev main_v12_2 : Ref sig .tc := ⟨.hbm, 26, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg4_1 : Ref sig .tc := ⟨.vmem, 16, rfl⟩
abbrev cc1_stg5_0 : Ref sig .tc := ⟨.vmem, 17, rfl⟩
abbrev cc1_stg5_1 : Ref sig .tc := ⟨.vmem, 18, rfl⟩
abbrev cc1_stg6_0 : Ref sig .tc := ⟨.vmem, 19, rfl⟩
abbrev cc1_stg6_1 : Ref sig .tc := ⟨.vmem, 20, rfl⟩
abbrev cc1_stg7_0 : Ref sig .tc := ⟨.vmem, 21, rfl⟩
abbrev cc1_stg7_1 : Ref sig .tc := ⟨.vmem, 22, rfl⟩
abbrev cc1_stg8_0 : Ref sig .tc := ⟨.vmem, 23, rfl⟩
abbrev cc1_stg8_1 : Ref sig .tc := ⟨.vmem, 24, rfl⟩
abbrev cc1_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc1_sem0_0 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17
abbrev cc1_sem5_0 : DmaSem sig := 18
abbrev cc1_sem5_1 : DmaSem sig := 19
abbrev cc1_sem6_0 : DmaSem sig := 20
abbrev cc1_sem6_1 : DmaSem sig := 21
abbrev cc1_sem7_0 : DmaSem sig := 22
abbrev cc1_sem7_1 : DmaSem sig := 23
abbrev cc1_sem8_0 : DmaSem sig := 24
abbrev cc1_sem8_1 : DmaSem sig := 25

abbrev nD : Nat := 1
abbrev τ : Topo := Topo.v7x

variable {F : FTy → Type} [FloatOps F]

abbrev grid0 : Pipeline.Grid := .none

abbrev stage0_0 : Fin 1 → Memref sig .tc .vmem S80x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S80x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S80x256 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S80 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S80 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S80x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S4x80x8 .i32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev grid1 : Pipeline.Grid := ⟨1, ![10], ![false]⟩

def k1_off1 (i : grid1.Coords) (c0_i32_1 : BitVec 32) : Fin 1 → Nat :=
  let arg0 : BitVec 32 := BitVec.ofNat 32 (i 0).val
  let c8_i32 : BitVec 32 := 8#32
  let v5 : BitVec 32 := Scalar.muli arg0 c8_i32
  let v6 : BitVec 32 := Scalar.addi v5 c0_i32_1
  let v7 : Index := Scalar.indexCast v6
  ![v7.toNat]
def cc1_transform_0 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_3 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .smem S80 .i32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S8x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4x8x8 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S20x8x8x128 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S160x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S160x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S8x2560 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S8x2560 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S8x2560 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]
-- ==== ReferenceIdeal.lean ====
abbrev S80x256 : Shape := ⟨2, ![80, 256]⟩
abbrev S256 : Shape := ⟨1, ![256]⟩
abbrev S256x256 : Shape := ⟨2, ![256, 256]⟩
abbrev S80x2560x8 : Shape := ⟨3, ![80, 2560, 8]⟩
abbrev S80x2560 : Shape := ⟨2, ![80, 2560]⟩
abbrev S80 : Shape := ⟨1, ![80]⟩
abbrev S1x256 : Shape := ⟨2, ![1, 256]⟩
abbrev S_ : Shape := ⟨0, ![]⟩
abbrev S80x1 : Shape := ⟨2, ![80, 1]⟩
abbrev S32 : Shape := ⟨1, ![32]⟩
abbrev S80x2560x8x1 : Shape := ⟨4, ![80, 2560, 8, 1]⟩
abbrev S1x1x1x32 : Shape := ⟨4, ![1, 1, 1, 32]⟩
abbrev S80x2560x8x32 : Shape := ⟨4, ![80, 2560, 8, 32]⟩
abbrev S80x2560x256 : Shape := ⟨3, ![80, 2560, 256]⟩
abbrev S2560 : Shape := ⟨1, ![2560]⟩
abbrev S1x2560 : Shape := ⟨2, ![1, 2560]⟩

abbrev nBuf : Space → Nat
  | .hbm => 153
  | .vmem => 0
  | .smem => 0
  | _ => 0

abbrev hbmTy0_0 (i : Nat) : BufTy := match i % 128 with
  | 0 => ⟨S80x256, .f32⟩
  | 1 => ⟨S256, .f32⟩
  | 2 => ⟨S256x256, .f32⟩
  | 3 => ⟨S80x256, .f32⟩
  | 4 => ⟨S80x2560x8, .i32⟩
  | 5 => ⟨S80x2560, .f32⟩
  | 6 => ⟨S80x2560, .f32⟩
  | 7 => ⟨S80, .i32⟩
  | 8 => ⟨S1x256, .f32⟩
  | 9 => ⟨S80x256, .f32⟩
  | 10 => ⟨S80x256, .f32⟩
  | 11 => ⟨S80x256, .f32⟩
  | 12 => ⟨S_, .f32⟩
  | 13 => ⟨S80, .f32⟩
  | 14 => ⟨S80, .f32⟩
  | 15 => ⟨S80x1, .f32⟩
  | 16 => ⟨S80x256, .f32⟩
  | 17 => ⟨S80x256, .f32⟩
  | 18 => ⟨S80x256, .f32⟩
  | 19 => ⟨S_, .f32⟩
  | 20 => ⟨S80, .f32⟩
  | 21 => ⟨S_, .f32⟩
  | 22 => ⟨S80, .f32⟩
  | 23 => ⟨S80, .f32⟩
  | 24 => ⟨S_, .f32⟩
  | 25 => ⟨S80, .f32⟩
  | 26 => ⟨S80, .f32⟩
  | 27 => ⟨S80x1, .f32⟩
  | 28 => ⟨S80x256, .f32⟩
  | 29 => ⟨S80x256, .f32⟩
  | 30 => ⟨S80x1, .f32⟩
  | 31 => ⟨S80x256, .f32⟩
  | 32 => ⟨S80x256, .f32⟩
  | 33 => ⟨S80x256, .f32⟩
  | 34 => ⟨S80x256, .f32⟩
  | 35 => ⟨S_, .f32⟩
  | 36 => ⟨S_, .f32⟩
  | 37 => ⟨S_, .f32⟩
  | 38 => ⟨S80x256, .f32⟩
  | 39 => ⟨S80x256, .f32⟩
  | 40 => ⟨S_, .f32⟩
  | 41 => ⟨S80x256, .f32⟩
  | 42 => ⟨S80x256, .f32⟩
  | 43 => ⟨S80x256, .i32⟩
  | 44 => ⟨S80x256, .i8⟩
  | 45 => ⟨S80x256, .i8⟩
  | 46 => ⟨S80, .f32⟩
  | 47 => ⟨S80, .f32⟩
  | 48 => ⟨S80x2560x8, .i32⟩
  | 49 => ⟨S80x2560x8, .i32⟩
  | 50 => ⟨S_, .i32⟩
  | 51 => ⟨S80x2560, .i32⟩
  | 52 => ⟨S80x2560, .f32⟩
  | 53 => ⟨S80x256, .i32⟩
  | 54 => ⟨S_, .i32⟩
  | 55 => ⟨S80, .i32⟩
  | 56 => ⟨S80, .f32⟩
  | 57 => ⟨S32, .i32⟩
  | 58 => ⟨S80x2560x8x1, .i32⟩
  | 59 => ⟨S1x1x1x32, .i32⟩
  | 60 => ⟨S80x2560x8x32, .i32⟩
  | 61 => ⟨S80x2560x8x32, .i32⟩
  | 62 => ⟨S80x2560x8x32, .i32⟩
  | 63 => ⟨S_, .i32⟩
  | 64 => ⟨S80x2560x8x32, .i32⟩
  | 65 => ⟨S80x2560x8x32, .i32⟩
  | 66 => ⟨S80x2560x256, .i32⟩
  | 67 => ⟨S80x2560x256, .bf16⟩
  | 68 => ⟨S80x256, .i32⟩
  | 69 => ⟨S80x256, .f32⟩
  | 70 => ⟨S80x256, .bf16⟩
  | 71 => ⟨S80x2560, .f32⟩
  | 72 => ⟨S_, .f32⟩
  | 73 => ⟨S80, .f32⟩
  | 74 => ⟨S80, .f32⟩
  | 75 => ⟨S_, .f32⟩
  | 76 => ⟨S80, .f32⟩
  | 77 => ⟨S80, .f32⟩
  | 78 => ⟨S80x1, .f32⟩
  | 79 => ⟨S80x2560, .f32⟩
  | 80 => ⟨S80x2560, .f32⟩
  | 81 => ⟨S_, .f32⟩
  | 82 => ⟨S80, .f32⟩
  | 83 => ⟨S80, .f32⟩
  | 84 => ⟨S_, .f32⟩
  | 85 => ⟨S80, .f32⟩
  | 86 => ⟨S80, .f32⟩
  | 87 => ⟨S80x1, .f32⟩
  | 88 => ⟨S80x2560, .f32⟩
  | 89 => ⟨S80x2560, .f32⟩
  | 90 => ⟨S80x2560, .f32⟩
  | 91 => ⟨S_, .f32⟩
  | 92 => ⟨S80, .f32⟩
  | 93 => ⟨S80, .f32⟩
  | 94 => ⟨S80, .f32⟩
  | 95 => ⟨S80x1, .f32⟩
  | 96 => ⟨S80x2560, .f32⟩
  | 97 => ⟨S80x2560, .f32⟩
  | 98 => ⟨S_, .f32⟩
  | 99 => ⟨S80, .f32⟩
  | 100 => ⟨S80, .f32⟩
  | 101 => ⟨S80x1, .f32⟩
  | 102 => ⟨S80x2560, .f32⟩
  | 103 => ⟨S80x2560, .f32⟩
  | 104 => ⟨S80x2560, .f32⟩
  | 105 => ⟨S80x1, .f32⟩
  | 106 => ⟨S80x2560, .f32⟩
  | 107 => ⟨S80x1, .f32⟩
  | 108 => ⟨S80x2560, .f32⟩
  | 109 => ⟨S80x2560, .f32⟩
  | 110 => ⟨S_, .f32⟩
  | 111 => ⟨S80x2560, .f32⟩
  | 112 => ⟨S80x2560, .f32⟩
  | 113 => ⟨S80x2560, .f32⟩
  | 114 => ⟨S80x2560, .f32⟩
  | 115 => ⟨S80x2560, .f32⟩
  | 116 => ⟨S80x2560, .f32⟩
  | 117 => ⟨S_, .f32⟩
  | 118 => ⟨S80x2560, .f32⟩
  | 119 => ⟨S80x2560, .f32⟩
  | 120 => ⟨S80x2560, .f32⟩
  | 121 => ⟨S80x2560, .f32⟩
  | 122 => ⟨S80x2560, .f32⟩
  | 123 => ⟨S_, .f32⟩
  | 124 => ⟨S80x2560, .f32⟩
  | 125 => ⟨S80x2560, .f32⟩
  | 126 => ⟨S80x2560, .f32⟩
  | 127 => ⟨S80x2560, .f32⟩
  | _ => ⟨S80x256, .f32⟩

abbrev hbmTy0_1 (i : Nat) : BufTy := match i % 128 with
  | 0 => ⟨S80x2560, .f32⟩
  | 1 => ⟨S_, .f32⟩
  | 2 => ⟨S80x2560, .f32⟩
  | 3 => ⟨S80x2560, .f32⟩
  | 4 => ⟨S_, .f32⟩
  | 5 => ⟨S80x2560, .f32⟩
  | 6 => ⟨S80x2560, .f32⟩
  | 7 => ⟨S2560, .i32⟩
  | 8 => ⟨S1x2560, .i32⟩
  | 9 => ⟨S80x1, .i32⟩
  | 10 => ⟨S80x2560, .i32⟩
  | 11 => ⟨S80x2560, .i32⟩
  | 12 => ⟨S80x2560, .i1⟩
  | 13 => ⟨S_, .f32⟩
  | 14 => ⟨S_, .f32⟩
  | 15 => ⟨S80x2560, .f32⟩
  | 16 => ⟨S80x2560, .f32⟩
  | 17 => ⟨S_, .f32⟩
  | 18 => ⟨S_, .f32⟩
  | 19 => ⟨S80x2560, .f32⟩
  | 20 => ⟨S80x2560, .f32⟩
  | 21 => ⟨S_, .f32⟩
  | 22 => ⟨S_, .f32⟩
  | 23 => ⟨S80x2560, .f32⟩
  | 24 => ⟨S80x2560, .f32⟩
  | _ => ⟨S80x256, .f32⟩

abbrev hbmTy (i : Nat) : BufTy := match i / 128 with
  | 0 => hbmTy0_0 i
  | 1 => hbmTy0_1 i
  | _ => ⟨S80x256, .f32⟩

abbrev bufTy : (tb : Table) → Fin (tcTables nBuf tb) → BufTy
  | .hbm, ⟨i, _⟩ => hbmTy i
  | _, _ => ⟨S80x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_cst_4 : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_call0_v3 : Ref sig .tc := ⟨.hbm, 40, rfl⟩
abbrev main_call0_v4 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26_0 : Ref sig .tc := ⟨.hbm, 45, rfl⟩
abbrev main_v26_1 : Ref sig .tc := ⟨.hbm, 46, rfl⟩
abbrev main_v26_2 : Ref sig .tc := ⟨.hbm, 47, rfl⟩
abbrev main_v27 : Ref sig .tc := ⟨.hbm, 48, rfl⟩
abbrev main_v28 : Ref sig .tc := ⟨.hbm, 49, rfl⟩
abbrev main_c : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_c_5 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_c_6 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_7 : Ref sig .tc := ⟨.hbm, 72, rfl⟩
abbrev main_v48 : Ref sig .tc := ⟨.hbm, 73, rfl⟩
abbrev main_v49 : Ref sig .tc := ⟨.hbm, 74, rfl⟩
abbrev main_cst_8 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_cst_9 : Ref sig .tc := ⟨.hbm, 81, rfl⟩
abbrev main_v55 : Ref sig .tc := ⟨.hbm, 82, rfl⟩
abbrev main_v56 : Ref sig .tc := ⟨.hbm, 83, rfl⟩
abbrev main_cst_10 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_cst_11 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_cst_12 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_cst_13 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_cst_14 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_cst_15 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_cst_16 : Ref sig .tc := ⟨.hbm, 129, rfl⟩
abbrev main_v96 : Ref sig .tc := ⟨.hbm, 130, rfl⟩
abbrev main_v97 : Ref sig .tc := ⟨.hbm, 131, rfl⟩
abbrev main_cst_17 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_cst_18 : Ref sig .tc := ⟨.hbm, 141, rfl⟩
abbrev main_call1_v0 : Ref sig .tc := ⟨.hbm, 142, rfl⟩
abbrev main_call1_v1 : Ref sig .tc := ⟨.hbm, 143, rfl⟩
abbrev main_v106 : Ref sig .tc := ⟨.hbm, 144, rfl⟩
abbrev main_cst_19 : Ref sig .tc := ⟨.hbm, 145, rfl⟩
abbrev main_call2_v0 : Ref sig .tc := ⟨.hbm, 146, rfl⟩
abbrev main_call2_v1 : Ref sig .tc := ⟨.hbm, 147, rfl⟩
abbrev main_v107 : Ref sig .tc := ⟨.hbm, 148, rfl⟩
abbrev main_cst_20 : Ref sig .tc := ⟨.hbm, 149, rfl⟩
abbrev main_call3_v0 : Ref sig .tc := ⟨.hbm, 150, rfl⟩
abbrev main_call3_v1 : Ref sig .tc := ⟨.hbm, 151, rfl⟩
abbrev main_v108 : Ref sig .tc := ⟨.hbm, 152, rfl⟩

abbrev nD : Nat := 1
abbrev τ : Topo := Topo.v7x

variable {F : FTy → Type} [FloatOps F]
-- ==== Proof.Bits.lean ====
/-
The arithmetic of bit planes, on natural numbers, words and extended reals; no program is mentioned here.

* a clipped floor is a whole number from 0 to 15 (`exists_code`);
* a sum of powers of two selected by flags is a word whose bits are the flags (`planeWord_getLsbD`);
* a population count is a sum of bits (`toNat_ctpop_sum`);
* four population counts per word, weighted 1, 2, 4, 8, are a dot product of bits with codes (`ipWord_toInt`).
-/
module

public import Idealize.ShloMosaic.Lib.WordArith
public import Idealize.ShloMosaic.Lib.WordSum
public import Idealize.ShloMosaic.PureOps.Ideal
public import Batteries.Data.Nat.Lemmas

@[expose] public section

namespace Cert.Rabitq

open Idealize.ShloMosaic
open scoped BigOperators

/-! ## Codes -/

/-- Rounding down and clipping to `[0, 15]` gives a whole number from 0 to 15, at infinities too. -/
theorem exists_code (z : EReal) :
    ∃ n : ℕ, n ≤ 15 ∧ min (15 : EReal) (max 0 (Ideal.liftRound Int.floor z)) = (((n : ℕ) : ℝ) : EReal) := by
  have h15 : (15 : EReal) = ((15 : ℝ) : EReal) := rfl
  have h0 : (0 : EReal) = ((0 : ℝ) : EReal) := rfl
  induction z with
  | bot =>
    refine ⟨0, by omega, ?_⟩
    show min (15 : EReal) (max 0 ⊥) = _
    simp
  | top =>
    refine ⟨15, le_rfl, ?_⟩
    show min (15 : EReal) (max 0 ⊤) = _
    simp [h15]
  | coe r =>
    refine ⟨(min 15 (max 0 ⌊r⌋)).toNat, by omega, ?_⟩
    have hn : (((min 15 (max 0 ⌊r⌋)).toNat : ℕ) : ℝ) = ((min 15 (max 0 ⌊r⌋) : ℤ) : ℝ) := by
      have : (((min 15 (max 0 ⌊r⌋)).toNat : ℕ) : ℤ) = min 15 (max 0 ⌊r⌋) := Int.toNat_of_nonneg (by omega)
      exact_mod_cast this
    show min (15 : EReal) (max 0 (((⌊r⌋ : ℤ) : ℝ) : EReal)) = _
    rw [hn, h15, h0, ← EReal.coe_strictMono.monotone.map_max, ← EReal.coe_strictMono.monotone.map_min]
    congr 1
    push_cast
    rfl

/-- A whole number below `2 ^ 31` converts to the 32-bit word of that number. -/
theorem fptosi_nat (n : ℕ) (h : n < 2 ^ 31) : Ideal.fptosi 32 (((n : ℕ) : ℝ) : EReal) = BitVec.ofNat 32 n := by
  unfold Ideal.fptosi
  show BitVec.ofInt 32 (max _ (min _ (if (0 : ℝ) ≤ (n : ℝ) then ⌊((n : ℕ) : ℝ)⌋ else ⌈((n : ℕ) : ℝ)⌉))) = _
  rw [if_pos (Nat.cast_nonneg n), Int.floor_natCast, min_eq_right (by push_cast; omega), max_eq_right (by push_cast; omega)]
  rfl

/-- A word of a number below `2 ^ 31` reads back, signed, as the number. -/
theorem toInt_ofNat_lt (n : ℕ) (h : n < 2 ^ 31) : (BitVec.ofNat 32 n).toInt = n := by
  rw [BitVec.toInt_eq_toNat_of_lt] <;> rw [BitVec.toNat_ofNat, Nat.mod_eq_of_lt (by omega)]
  omega

/-- A word whose number is below `2 ^ 31` reads the same signed. -/
theorem toInt_of_toNat (x : BitVec 32) (n : ℕ) (h : x.toNat = n) (hn : n < 2 ^ 31) : x.toInt = n := by
  rw [BitVec.toInt_eq_toNat_of_lt (by omega), h]

/-- Narrowing a code to eight bits and widening it again changes nothing. -/
theorem widen_narrow (n : ℕ) (h : n ≤ 15) :
    ((BitVec.ofNat 32 n).setWidth 8).setWidth 32 = BitVec.ofNat 32 n := by
  apply BitVec.eq_of_toNat_eq
  simp only [BitVec.toNat_setWidth, BitVec.toNat_ofNat]
  omega

/-- A finite sum of extended reals that are natural numbers is the natural sum. -/
theorem sum_coe_nat {ι : Type*} (s : Finset ι) (f : ι → ℕ) :
    (∑ i ∈ s, (((f i : ℕ) : ℝ) : EReal)) = (((∑ i ∈ s, f i : ℕ) : ℝ) : EReal) := by
  classical
  induction s using Finset.induction_on with
  | empty => simp
  | insert a s ha ih => rw [Finset.sum_insert ha, Finset.sum_insert ha, ih, Nat.cast_add, EReal.coe_add]

/-- The product of two natural numbers as extended reals. -/
theorem mul_coe_nat (a b : ℕ) : (((a : ℕ) : ℝ) : EReal) * (((b : ℕ) : ℝ) : EReal) = (((a * b : ℕ) : ℝ) : EReal) := by
  rw [Nat.cast_mul, EReal.coe_mul]

/-! ## Words with given bits -/

/-- The word of `32` flags, low half and high half each a sum of powers of two: the high half is shifted into place. -/
theorem sum_pow_eq_ofBits : ∀ (n : ℕ) (b : Fin n → Bool), (∑ k : Fin n, (b k).toNat * 2 ^ (k : ℕ)) = Nat.ofBits b
  | 0, b => by simp
  | n + 1, b => by
    rw [Fin.sum_univ_succ, Nat.ofBits_succ, ← sum_pow_eq_ofBits n, Finset.mul_sum]
    simp only [Fin.val_zero, pow_zero, mul_one, Fin.val_succ, Function.comp]
    rw [add_comm]
    congr 1
    exact Finset.sum_congr rfl fun k _ => by rw [pow_succ]; ring

/-- The word assembled from sixteen low and sixteen high flags. -/
def planeWord (b : ℕ → Bool) : BitVec 32 :=
  BitVec.ofNat 32 (∑ k : Fin 16, (b k).toNat * 2 ^ (k : ℕ)) |||
    (BitVec.ofNat 32 (∑ k : Fin 16, (b (16 + k)).toNat * 2 ^ (k : ℕ)) <<< 16)

/-- Bit `k` of the assembled word is flag `k`. -/
theorem planeWord_getLsbD (b : ℕ → Bool) (k : ℕ) (hk : k < 32) : (planeWord b).getLsbD k = b k := by
  unfold planeWord
  rw [sum_pow_eq_ofBits 16 fun k => b k, sum_pow_eq_ofBits 16 fun k => b (16 + k)]
  simp only [BitVec.getLsbD_or, BitVec.getLsbD_shiftLeft, BitVec.getLsbD_ofNat]
  by_cases h : k < 16
  · rw [Nat.testBit_ofBits_lt _ _ h]
    simp [h, hk]
  · rw [Nat.testBit_ofBits_ge _ _ (by omega), Nat.testBit_ofBits_lt _ _ (by omega : k - 16 < 16)]
    simp only [hk, h, show k - 16 < 32 by omega, decide_true, decide_false, Bool.true_and, Bool.not_false, Bool.false_or, Bool.and_false]
    congr 1
    show 16 + (k - 16) = k
    omega

/-! ## Population counts -/

/-- A population count is the sum of the bits. -/
theorem toNat_ctpop_sum (x : BitVec 32) : (IntOp.ctpop x).toNat = ∑ k : Fin 32, (x.getLsbD k).toNat := by
  rw [WordArith.toNat_ctpop, ← List.countP_eq_length_filter, Finset.sum_fin_eq_sum_range]
  rw [Finset.sum_congr rfl (g := fun k => (x.getLsbD k).toNat) fun k hk => by
    rw [dif_pos (Finset.mem_range.mp hk)]]
  suffices h : ∀ n : ℕ, List.countP (fun i => x.getLsbD i) (List.range n) = ∑ k ∈ Finset.range n, (x.getLsbD k).toNat from h 32
  intro n
  induction n with
  | zero => rfl
  | succ n ih =>
    rw [List.range_succ, List.countP_append, ih, Finset.sum_range_succ]
    cases h : x.getLsbD n <;> simp [h]

/-- The sum of eight words, in order, from zero. -/
def chain8 (p : Fin 8 → BitVec 32) : BitVec 32 :=
  ((((((((0#32 + p 0) + p 1) + p 2) + p 3) + p 4) + p 5) + p 6) + p 7)

/-- The sum of eight small words does not wrap. -/
theorem toNat_chain8 (p : Fin 8 → BitVec 32) (h : ∀ w, (p w).toNat ≤ 32) :
    (chain8 p).toNat = ∑ w : Fin 8, (p w).toNat := by
  have h0 := h 0; have h1 := h 1; have h2 := h 2; have h3 := h 3
  have h4 := h 4; have h5 := h 5; have h6 := h 6; have h7 := h 7
  unfold chain8
  simp only [Fin.sum_univ_eight, BitVec.toNat_add, BitVec.toNat_ofNat]
  omega

/-- A number below 16 is the weighted sum of its four bits. -/
theorem code_eq_bits (n : ℕ) (h : n ≤ 15) :
    (n.testBit 0).toNat + 2 * (n.testBit 1).toNat + 4 * (n.testBit 2).toNat + 8 * (n.testBit 3).toNat = n := by
  interval_cases n <;> rfl

/-- The four population counts of a data word against four plane words, summed over eight words and weighted 1, 2, 4, 8. -/
def ipWord (c : Fin 8 → BitVec 32) (P : Fin 4 → Fin 8 → BitVec 32) : BitVec 32 :=
  ((chain8 (fun w => IntOp.ctpop (c w &&& P 0 w)) + 2#32 * chain8 (fun w => IntOp.ctpop (c w &&& P 1 w)))
    + 4#32 * chain8 (fun w => IntOp.ctpop (c w &&& P 2 w))) + 8#32 * chain8 (fun w => IntOp.ctpop (c w &&& P 3 w))

/-- When bit `k` of plane `j`, word `w` is bit `j` of code `32 w + k`, the weighted population counts are the dot product of
the data bits with the codes. -/
theorem ipWord_toNat (c : Fin 8 → BitVec 32) (P : Fin 4 → Fin 8 → BitVec 32) (q : Fin 8 → Fin 32 → ℕ)
    (hq : ∀ w k, q w k ≤ 15)
    (hP : ∀ (j : Fin 4) (w : Fin 8) (k : Fin 32), (P j w).getLsbD k = (q w k).testBit j) :
    (ipWord c P).toNat = ∑ w : Fin 8, ∑ k : Fin 32, ((c w).getLsbD k).toNat * q w k
      ∧ (ipWord c P).toNat < 2 ^ 31 := by
  have hle : ∀ x : BitVec 32, (IntOp.ctpop x).toNat ≤ 32 := fun x => WordArith.toNat_ctpop_le x
  have hch : ∀ j : Fin 4, (chain8 fun w => IntOp.ctpop (c w &&& P j w)).toNat
      = ∑ w : Fin 8, ∑ k : Fin 32, ((c w).getLsbD k).toNat * ((q w k).testBit j).toNat := fun j => by
    rw [toNat_chain8 _ fun w => hle _]
    refine Finset.sum_congr rfl fun w _ => ?_
    rw [toNat_ctpop_sum]
    refine Finset.sum_congr rfl fun k _ => ?_
    rw [BitVec.getLsbD_and, hP]
    cases (c w).getLsbD k <;> simp
  have hb : ∀ j : Fin 4, (chain8 fun w => IntOp.ctpop (c w &&& P j w)).toNat ≤ 256 := fun j => by
    rw [toNat_chain8 _ fun w => hle _]
    exact (Finset.sum_le_sum fun w _ => hle _).trans (by simp)
  have hsum : (∑ w : Fin 8, ∑ k : Fin 32, ((c w).getLsbD k).toNat * q w k)
      = (chain8 fun w => IntOp.ctpop (c w &&& P 0 w)).toNat + 2 * (chain8 fun w => IntOp.ctpop (c w &&& P 1 w)).toNat
        + 4 * (chain8 fun w => IntOp.ctpop (c w &&& P 2 w)).toNat + 8 * (chain8 fun w => IntOp.ctpop (c w &&& P 3 w)).toNat := by
    rw [hch 0, hch 1, hch 2, hch 3]
    simp only [Finset.mul_sum, ← Finset.sum_add_distrib]
    refine Finset.sum_congr rfl fun w _ => Finset.sum_congr rfl fun k _ => ?_
    conv_lhs => rw [← code_eq_bits (q w k) (hq w k)]
    simp only [Fin.val_zero, Fin.val_one, Fin.val_two, show ((3 : Fin 4) : ℕ) = 3 from rfl]
    ring
  have b0 := hb 0; have b1 := hb 1; have b2 := hb 2; have b3 := hb 3
  rw [hsum]
  unfold ipWord
  simp only [BitVec.toNat_add, BitVec.toNat_mul, BitVec.toNat_ofNat]
  omega

/-- The same, read as a signed number in the extended reals. -/
theorem ipWord_toInt (c : Fin 8 → BitVec 32) (P : Fin 4 → Fin 8 → BitVec 32) (q : Fin 8 → Fin 32 → ℕ)
    (hq : ∀ w k, q w k ≤ 15)
    (hP : ∀ (j : Fin 4) (w : Fin 8) (k : Fin 32), (P j w).getLsbD k = (q w k).testBit j) :
    (((ipWord c P).toInt : ℝ) : EReal)
      = ((((∑ w : Fin 8, ∑ k : Fin 32, ((c w).getLsbD k).toNat * q w k) : ℕ) : ℝ) : EReal) := by
  obtain ⟨h, hlt⟩ := ipWord_toNat c P q hq hP
  rw [toInt_of_toNat _ _ h (h ▸ hlt), Int.cast_natCast]

end Cert.Rabitq
-- ==== Proof.Spec.lean ====
/-
The formulas of one query row and one candidate, on extended reals and 32-bit words; no program is mentioned here.

* `nqS`, `rotS`, `vlS`, `deltaS`, `qfS`, `codeW`: the quantiser of one query row;
* `planeS`: the bit-plane word that two weighted sums of plane bits assemble (`planeS_getLsbD`);
* `ipS`: the estimated inner product through population counts; `refIpS`: the same through a sum over the 256 coordinates;
* `ip_eq`: the two agree.
-/
module

public import proofs.«01_k».proof.Proof.Bits

@[expose] public section

set_option maxRecDepth 16384

noncomputable section

namespace Cert.Rabitq

open Idealize.ShloMosaic
open scoped BigOperators

/-! ## One candidate: the scalar formulas -/

/-- Eight words added up one after the other, starting from zero. -/
def chainI (p : Fin 8 → BitVec 32) : BitVec 32 :=
  IntOp.addi (IntOp.addi (IntOp.addi (IntOp.addi (IntOp.addi (IntOp.addi (IntOp.addi (IntOp.addi 0#32 (p 0)) (p 1)) (p 2))
    (p 3)) (p 4)) (p 5)) (p 6)) (p 7)

/-- The population counts of the data words against one bit plane, added up. -/
def planeI (C : Fin 8 → BitVec 32) (P : Fin 8 → BitVec 32) : BitVec 32 :=
  chainI fun w => IntOp.ctpop (IntOp.andi (C w) (P w))

/-- The four planes' counts weighted by 1, 2, 4 and 8. -/
def ipI (C : Fin 8 → BitVec 32) (P : Fin 4 → Fin 8 → BitVec 32) : BitVec 32 :=
  IntOp.addi (IntOp.addi (IntOp.addi (planeI C (P 0)) (IntOp.muli 2#32 (planeI C (P 1)))) (IntOp.muli 4#32 (planeI C (P 2))))
    (IntOp.muli 8#32 (planeI C (P 3)))

/-- The chain of additions is the sum of words. -/
theorem chainI_eq (p : Fin 8 → BitVec 32) : chainI p = chain8 p := rfl
/-- The weighted counts are the word of the integer argument. -/
theorem ipI_eq (C : Fin 8 → BitVec 32) (P : Fin 4 → Fin 8 → BitVec 32) : ipI C P = ipWord C P := rfl

/-- The estimated inner product of one candidate, from the four query factors, the candidate's `oo`, its eight data words and
the query's four bit planes. -/
def ipS (a b c d oo : EReal) (C : Fin 8 → BitVec 32) (P : Fin 4 → Fin 8 → BitVec 32) : EReal :=
  Ideal.div (a * FloatOps.sitofp (F := Ideal) .f32 (ipI C P)
    + b * FloatOps.sitofp (F := Ideal) .f32 (chainI fun w => IntOp.ctpop (C w)) - c - d) oo

/-- The estimated distance of one candidate, from its norm, the query's norm and the estimated inner product. -/
def distS (norm nq ip : EReal) : EReal :=
  norm * norm + nq * nq - Ideal.ofBits .f32 1073741824#32 * norm * nq * ip

/-- The error bound of one candidate, from its norm, the query's norm and its `oo`. -/
def boundS (norm nq oo : EReal) : EReal :=
  Ideal.div (Ideal.div (Ideal.ofBits .f32 1073741824#32 * norm * nq * Ideal.sqrt (1 - oo * oo)) oo
    * Ideal.ofBits .f32 1072902963#32) (Ideal.ofBits .f32 1098874848#32)

/-- A value kept for a candidate in range and replaced by zero for one past the query's candidate count. -/
def keepS (lane count : BitVec 32) (v : EReal) : EReal := Scalar.select (IntOp.cmpi .slt lane count) v 0

/-! ## One query row: the quantiser -/

section query
variable (X C : Fin 256 → EReal) (R : Fin 256 → Fin 256 → EReal) (Q : Fin 256 → EReal)

/-- The norm of the centred query. -/
def nqS : EReal := Ideal.sqrt (∑ x, (X x - C x) * (X x - C x))
/-- The rotated unit query. -/
def rotS (d : Fin 256) : EReal := ∑ k, Ideal.div (X k - C k) (nqS X C) * R k d
/-- The least coordinate of the rotated query. -/
def vlS : EReal := Finset.fold min (Ideal.ofBits .f32 2139095040#32) (fun d => rotS X C R d) Finset.univ
/-- The quantiser's step. -/
def deltaS : EReal :=
  Ideal.div (Finset.fold max (Ideal.ofBits .f32 4286578688#32) (fun d => rotS X C R d) Finset.univ - vlS X C R)
    (Ideal.ofBits .f32 1097859072#32)
/-- The code of a coordinate, before conversion to an integer. -/
def qfS (d : Fin 256) : EReal :=
  min (Ideal.ofBits .f32 1097859072#32)
    (max 0 (Ideal.liftRound Int.floor (Ideal.div (rotS X C R d - vlS X C R) (deltaS X C R) + Q d)))
/-- The code of a coordinate as a 32-bit word. -/
def codeW (d : Fin 256) : BitVec 32 := FloatOps.fptosi (F := Ideal) 32 (φ := .f32) (qfS X C R Q d)

/-- The 32-bit float pattern of fifteen is fifteen. -/
theorem bits_fifteen : Ideal.ofBits .f32 1097859072#32 = 15 := by
  rw [show (15 : EReal) = ((15 : ℝ) : EReal) from rfl]
  simp [Ideal.ofBits, Ideal.ieee, -EReal.coe_mul]; norm_num

/-- The codes of a row are whole numbers from 0 to 15. -/
theorem exists_codes : ∃ N : ℕ → ℕ, (∀ x, N x ≤ 15) ∧ (∀ d, qfS X C R Q d = (((N d : ℕ) : ℝ) : EReal)) ∧
    ∀ d, codeW X C R Q d = BitVec.ofNat 32 (N d) := by
  have h : ∀ d, ∃ n : ℕ, n ≤ 15 ∧ qfS X C R Q d = (((n : ℕ) : ℝ) : EReal) := fun d => by
    unfold qfS; rw [bits_fifteen]; exact exists_code _
  choose n hn hq using h
  refine ⟨fun x => if hx : x < 256 then n ⟨x, hx⟩ else 0, fun x => ?_, fun d => ?_, fun d => ?_⟩
  · dsimp only; split
    · exact hn _
    · omega
  · dsimp only; rw [dif_pos d.isLt]; exact hq d
  · dsimp only; rw [dif_pos d.isLt]
    show Ideal.fptosi 32 (qfS X C R Q d) = _
    rw [hq d]
    exact fptosi_nat _ (by have := hn d; omega)
end query

/-! ## The bit planes -/

/-- A sum over 256 coordinates, word by word. -/
theorem sum256 {M : Type*} [AddCommMonoid M] (g : Fin 256 → M) :
    ∑ x, g x = ∑ w : Fin 8, ∑ k : Fin 32, g ⟨32 * w + k, by omega⟩ := by
  refine (Equiv.sum_comp (finProdFinEquiv (m := 8) (n := 32)) g).symm.trans ((Fintype.sum_prod_type _).trans ?_)
  refine Finset.sum_congr rfl fun w _ => Finset.sum_congr rfl fun k _ => congrArg g (Fin.ext ?_)
  show (k : ℕ) + 32 * w = 32 * w + k
  omega

section planes
variable (D : Fin 256 → BitVec 32) (j : BitVec 32) (w : Fin 8)

/-- Coordinate `x`'s share in word `w` of a plane: the plane bit times its power of two within the half word. -/
def shareS (x : Fin 256) : EReal :=
  Scalar.select (IntOp.cmpi .eq (BitVec.ofNat 32 w) (IntOp.shrsi .vector (BitVec.ofNat 32 x) 5#32))
    (FloatOps.sitofp (F := Ideal) .f32 (IntOp.andi (IntOp.shrsi .vector (D x) j) 1#32) *
      FloatOps.sitofp (F := Ideal) .f32 (IntOp.shli .vector 1#32 (IntOp.andi (IntOp.andi (BitVec.ofNat 32 x) 31#32) 15#32))) 0
/-- The low half word of a plane word, as a sum. -/
def loS : EReal :=
  ∑ x : Fin 256, Scalar.select (IntOp.cmpi .slt (IntOp.andi (BitVec.ofNat 32 x) 31#32) 16#32) (shareS D j w x) 0
/-- The high half word of a plane word, as a sum. -/
def hiS : EReal :=
  ∑ x : Fin 256, Scalar.select (IntOp.cmpi .slt (IntOp.andi (BitVec.ofNat 32 x) 31#32) 16#32) 0 (shareS D j w x)
/-- A plane word, put together from its halves. -/
def planeS : BitVec 32 :=
  IntOp.ori (FloatOps.fptosi (F := Ideal) 32 (φ := .f32) (loS D j w))
    (IntOp.shli .vector (FloatOps.fptosi (F := Ideal) 32 (φ := .f32) (hiS D j w)) 16#32)
end planes

/-- Whether a coordinate lies in the low half of its word. -/
theorem cond_lo : ∀ x : Fin 256, IntOp.cmpi .slt (IntOp.andi (BitVec.ofNat 32 x) 31#32) 16#32
    = BitVec.ofBool (decide ((x : ℕ) % 32 < 16)) := by decide +kernel
/-- Whether a coordinate lies in word `w`. -/
theorem cond_word : ∀ (x : Fin 256) (w : Fin 8), IntOp.cmpi .eq (BitVec.ofNat 32 w) (IntOp.shrsi .vector (BitVec.ofNat 32 x) 5#32)
    = BitVec.ofBool (decide ((x : ℕ) / 32 = w)) := by decide +kernel
/-- The power of two of a coordinate within its half word. -/
theorem weight : ∀ x : Fin 256, (IntOp.shli .vector 1#32 (IntOp.andi (IntOp.andi (BitVec.ofNat 32 x) 31#32) 15#32)).toInt
    = ((2 ^ ((x : ℕ) % 32 % 16) : ℕ) : ℤ) := by decide +kernel
/-- Bit `j` of a code, shifted down and masked. -/
theorem code_bit : ∀ (n : Fin 16) (j : Fin 4), (IntOp.andi (IntOp.shrsi .vector (BitVec.ofNat 32 n) (BitVec.ofNat 32 j)) 1#32).toInt
    = ((((n : ℕ).testBit j).toNat : ℕ) : ℤ) := by decide +kernel

/-- Choosing by the word of a truth value. -/
theorem select_ofBool {α : Type} (p : Prop) [Decidable p] (a b : α) :
    Scalar.select (BitVec.ofBool (decide p)) a b = if p then a else b := by
  by_cases h : p <;> simp [Scalar.select, h]

/-- A sum over the coordinates of one half of one word. -/
theorem half_sum (w : Fin 8) (f : ℕ → ℕ) (a : ℕ) (ha : a = 0 ∨ a = 1) :
    (∑ x : Fin 256, if (x : ℕ) % 32 / 16 = a then (if (x : ℕ) / 32 = w then f x * 2 ^ ((x : ℕ) % 32 % 16) else 0) else 0) =
      ∑ k : Fin 16, f (32 * w + (16 * a + k)) * 2 ^ (k : ℕ) := by
  rw [sum256, Finset.sum_eq_single w]
  · rw [show (∑ k : Fin 32, if (32 * (w : ℕ) + k) % 32 / 16 = a then (if (32 * (w : ℕ) + k) / 32 = w then
        f (32 * w + k) * 2 ^ ((32 * (w : ℕ) + k) % 32 % 16) else 0) else 0) =
        ∑ k : Fin (16 + 16), if (k : ℕ) / 16 = a then f (32 * w + k) * 2 ^ ((k : ℕ) % 16) else 0 from
      Finset.sum_congr rfl fun k _ => by
        have hk := k.isLt
        rw [show (32 * (w : ℕ) + k) % 32 = k by omega, if_pos (show (32 * (w : ℕ) + k) / 32 = w by omega)],
      Fin.sum_univ_add]
    simp only [Fin.val_castAdd, Fin.val_natAdd]
    rcases ha with rfl | rfl
    · rw [Finset.sum_congr rfl (g := fun k : Fin 16 => f (32 * w + (16 * 0 + k)) * 2 ^ (k : ℕ)) fun k _ => by
          rw [if_pos (by omega), Nat.mod_eq_of_lt k.isLt, Nat.mul_zero, Nat.zero_add],
        Finset.sum_eq_zero (s := Finset.univ) (f := fun k : Fin 16 => if (16 + (k : ℕ)) / 16 = 0 then _ else 0) fun k _ => by
          rw [if_neg (by omega)], Nat.add_zero]
    · rw [Finset.sum_eq_zero (s := Finset.univ) (f := fun k : Fin 16 => if (k : ℕ) / 16 = 1 then _ else 0) fun k _ => by
          rw [if_neg (by omega)], Nat.zero_add]
      exact Finset.sum_congr rfl fun k _ => by
        rw [if_pos (by omega), show (16 + (k : ℕ)) % 16 = k by omega]
  · intro v _ hv
    refine Finset.sum_eq_zero fun k _ => ?_
    have hk := k.isLt
    have : (v : ℕ) ≠ w := fun h => hv (Fin.ext h)
    rw [if_neg (show ¬ (32 * (v : ℕ) + k) / 32 = w by omega), ite_self]
  · exact fun h => absurd (Finset.mem_univ w) h

section planes
variable (N : ℕ → ℕ) (hN : ∀ x, N x ≤ 15) (D : Fin 256 → BitVec 32) (hD : ∀ x, D x = BitVec.ofNat 32 (N x)) (j : Fin 4) (w : Fin 8)
include hN hD

/-- A coordinate's share is a natural number. -/
theorem shareS_eq (x : Fin 256) : shareS D (BitVec.ofNat 32 j) w x =
    (((if (x : ℕ) / 32 = w then ((N x).testBit j).toNat * 2 ^ ((x : ℕ) % 32 % 16) else 0 : ℕ) : ℝ) : EReal) := by
  unfold shareS
  rw [cond_word, select_ofBool]
  split
  · show (((IntOp.andi _ 1#32).toInt : ℝ) : EReal) * (((IntOp.shli _ _ _).toInt : ℝ) : EReal) = _
    rw [weight, hD x, code_bit ⟨N x, by have := hN x; omega⟩ j, Int.cast_natCast, Int.cast_natCast, mul_coe_nat]
  · simp

/-- The low half word. -/
theorem loS_eq : loS D (BitVec.ofNat 32 j) w =
    (((∑ k : Fin 16, ((N (32 * w + k)).testBit j).toNat * 2 ^ (k : ℕ) : ℕ) : ℝ) : EReal) := by
  have h := half_sum w (fun x => ((N x).testBit j).toNat) 0 (Or.inl rfl)
  simp only [Nat.mul_zero, Nat.zero_add] at h
  rw [← h, ← sum_coe_nat]
  refine Finset.sum_congr rfl fun x _ => ?_
  rw [cond_lo, select_ofBool, shareS_eq N hN D hD j w x]
  by_cases hx : (x : ℕ) % 32 < 16
  · rw [if_pos hx, if_pos (show (x : ℕ) % 32 / 16 = 0 by omega)]
  · rw [if_neg hx, if_neg (show ¬ (x : ℕ) % 32 / 16 = 0 by omega)]; simp

/-- The high half word. -/
theorem hiS_eq : hiS D (BitVec.ofNat 32 j) w =
    (((∑ k : Fin 16, ((N (32 * w + (16 + k))).testBit j).toNat * 2 ^ (k : ℕ) : ℕ) : ℝ) : EReal) := by
  have h := half_sum w (fun x => ((N x).testBit j).toNat) 1 (Or.inr rfl)
  simp only [Nat.mul_one] at h
  rw [← h, ← sum_coe_nat]
  refine Finset.sum_congr rfl fun x _ => ?_
  rw [cond_lo, select_ofBool, shareS_eq N hN D hD j w x]
  by_cases hx : (x : ℕ) % 32 < 16
  · rw [if_pos hx, if_neg (show ¬ (x : ℕ) % 32 / 16 = 1 by omega)]; simp
  · rw [if_neg hx, if_pos (show (x : ℕ) % 32 / 16 = 1 by omega)]

/-- A plane word is the word of the codes' bits. -/
theorem planeS_eq : planeS D (BitVec.ofNat 32 j) w = planeWord fun k => (N (32 * w + k)).testBit j := by
  have hb : ∀ b : Fin 16 → Bool, (∑ k : Fin 16, (b k).toNat * 2 ^ (k : ℕ)) < 2 ^ 31 := fun b => by
    rw [sum_pow_eq_ofBits]; exact lt_trans (Nat.ofBits_lt_two_pow b) (by norm_num)
  unfold planeS planeWord
  show IntOp.ori (Ideal.fptosi 32 _) (IntOp.shli .vector (Ideal.fptosi 32 _) 16#32) = _
  rw [loS_eq N hN D hD j w, hiS_eq N hN D hD j w, fptosi_nat _ (hb fun k => (N (32 * w + k)).testBit j),
    fptosi_nat _ (hb fun k => (N (32 * w + (16 + k))).testBit j)]
  rfl

/-- Bit `k` of word `w` of plane `j` is bit `j` of code `32 w + k`. -/
theorem planeS_getLsbD (k : Fin 32) : (planeS D (BitVec.ofNat 32 j) w).getLsbD k = (N (32 * w + k)).testBit j := by
  rw [planeS_eq N hN D hD j w, planeWord_getLsbD _ _ k.isLt]
end planes

/-! ## The inner product over the coordinates -/

/-- The dot product of the data bits with the codes, coordinate by coordinate. -/
def bitSum (W : Fin 8 → BitVec 32) (q : Fin 256 → BitVec 32) : EReal :=
  ∑ x : Fin 256, FloatOps.uitofp (F := Ideal) .bf16
      (IntOp.andi (IntOp.shrui .host (W ⟨x / 32, by omega⟩) (BitVec.ofNat 32 ((x : ℕ) % 32))) 1#32) *
    FloatOps.sitofp (F := Ideal) .f32 (BitVec.setWidth 32 (BitVec.setWidth 8 (q x)))
/-- The number of data bits that are set. -/
def popSum (W : Fin 8 → BitVec 32) : EReal :=
  FloatOps.sitofp (F := Ideal) .f32 (Finset.fold IntOp.addi 0#32 (fun w => IntOp.ctpop (W w)) Finset.univ)
/-- The sum of the codes. -/
def codeSum (q : Fin 256 → BitVec 32) : EReal :=
  FloatOps.sitofp (F := Ideal) .f32
    (Finset.fold IntOp.addi 0#32 (fun x => BitVec.setWidth 32 (BitVec.setWidth 8 (q x))) Finset.univ)

/-- The estimated inner product of one candidate as a sum over the coordinates. -/
def refIpS (delta vl oo : EReal) (W : Fin 8 → BitVec 32) (q : Fin 256 → BitVec 32) : EReal :=
  Ideal.div (Ideal.div (Ideal.ofBits .f32 1073741824#32 * delta) (Ideal.ofBits .f32 1098907648#32) * bitSum W q
    + Ideal.div (Ideal.ofBits .f32 1073741824#32 * vl) (Ideal.ofBits .f32 1098907648#32) * popSum W
    - Ideal.div delta (Ideal.ofBits .f32 1098907648#32) * codeSum q
    - Ideal.ofBits .f32 1098907648#32 * vl) oo

/-- A data bit, shifted down and masked. -/
theorem data_bit (x : BitVec 32) (k : ℕ) (hk : k < 32) :
    (IntOp.andi (IntOp.shrui .host x (BitVec.ofNat 32 k)) 1#32).toNat = (x.getLsbD k).toNat := by
  have hk' : (BitVec.ofNat 32 k).toNat = k := by rw [BitVec.toNat_ofNat]; omega
  unfold IntOp.shrui
  rw [if_pos (by rw [hk']; exact hk)]
  show ((x >>> BitVec.ofNat 32 k) &&& 1#32).toNat = _
  rw [BitVec.ushiftRight_eq', hk', BitVec.toNat_and, BitVec.toNat_ushiftRight, BitVec.toNat_ofNat, BitVec.getLsbD,
    Nat.testBit, Nat.and_comm]
  simp [Nat.and_one_is_mod, Nat.shiftRight_eq_div_pow]
  rcases Nat.mod_two_eq_zero_or_one (x.toNat / 2 ^ k) with h | h <;> simp [h]

/-- The word sum of the population counts is the chain of additions. -/
theorem fold_eq_chainI (p : Fin 8 → BitVec 32) : Finset.fold IntOp.addi 0#32 p Finset.univ = chainI p := by
  rw [chainI_eq]
  have h : Finset.fold IntOp.addi 0#32 p Finset.univ = ∑ w, p w := by
    rw [Finset.sum_eq_fold]; rfl
  rw [h, Fin.sum_univ_eight, chain8, BitVec.zero_add]

section final
variable (N : ℕ → ℕ) (hN : ∀ x, N x ≤ 15) (q : Fin 256 → BitVec 32) (hq : ∀ x, q x = BitVec.ofNat 32 (N x))
include hN hq

/-- The dot product is a natural number. -/
theorem bitSum_eq (W : Fin 8 → BitVec 32) : bitSum W q =
    (((∑ w : Fin 8, ∑ k : Fin 32, ((W w).getLsbD k).toNat * N (32 * w + k) : ℕ) : ℝ) : EReal) := by
  have h : bitSum W q = ∑ x : Fin 256, (((((W ⟨x / 32, by omega⟩).getLsbD ((x : ℕ) % 32)).toNat * N x : ℕ) : ℝ) : EReal) := by
    refine Finset.sum_congr rfl fun x _ => ?_
    rw [hq x, widen_narrow _ (hN x)]
    show (((IntOp.andi _ 1#32).toNat : ℝ) : EReal) * (((BitVec.ofNat 32 (N x)).toInt : ℝ) : EReal) = _
    rw [data_bit _ _ (Nat.mod_lt _ (by norm_num)), toInt_ofNat_lt _ (by have := hN x; omega), Int.cast_natCast, mul_coe_nat]
  rw [h, sum_coe_nat, sum256]
  refine congrArg (fun n : ℕ => ((n : ℝ) : EReal)) (Finset.sum_congr rfl fun w _ => Finset.sum_congr rfl fun k _ => ?_)
  have hk := k.isLt
  have e1 : (⟨(32 * (w : ℕ) + k) / 32, by omega⟩ : Fin 8) = w := Fin.ext (by show (32 * (w : ℕ) + k) / 32 = w; omega)
  have e2 : (32 * (w : ℕ) + k) % 32 = k := by omega
  simp only [e1, e2]

/-- The sum of the codes, in words or in extended reals. -/
theorem codeSum_eq (f : Fin 256 → EReal) (hf : ∀ x, f x = (((N x : ℕ) : ℝ) : EReal)) : codeSum q = ∑ x, f x := by
  unfold codeSum
  have h : Finset.fold IntOp.addi 0#32 (fun x => BitVec.setWidth 32 (BitVec.setWidth 8 (q x))) Finset.univ
      = ∑ x : Fin 256, BitVec.ofNat 32 (N x) := by
    rw [Finset.sum_eq_fold]
    exact congrArg (fun g => Finset.fold IntOp.addi 0#32 g Finset.univ) (funext fun x => by rw [hq x, widen_narrow _ (hN x)])
  have hle : (∑ x : Fin 256, N x) < 2 ^ 31 := by
    refine lt_of_le_of_lt (Finset.sum_le_sum fun x _ => hN x) ?_
    simp
  have hs : (∑ x : Fin 256, BitVec.ofNat 32 (N x)).toNat = ∑ x : Fin 256, N x := by
    have e : ∀ x : Fin 256, (BitVec.ofNat 32 (N x)).toNat = N x := fun x => by
      have := hN x; rw [BitVec.toNat_ofNat]; omega
    rw [WordSum.toNat_sum _ _ (by simp only [e]; omega)]
    simp only [e]
  rw [h, Finset.sum_congr rfl fun x _ => hf x, sum_coe_nat]
  show ((((∑ x : Fin 256, BitVec.ofNat 32 (N x)).toInt : ℤ) : ℝ) : EReal) = _
  rw [toInt_of_toNat _ _ hs hle, Int.cast_natCast]

/-- The two forms of the estimated inner product agree. -/
theorem ip_eq (f : Fin 256 → EReal) (hf : ∀ x, f x = (((N x : ℕ) : ℝ) : EReal)) (delta vl oo : EReal) (W : Fin 8 → BitVec 32) :
    ipS (Ideal.div (Ideal.ofBits .f32 1073741824#32 * delta) (Ideal.ofBits .f32 1098907648#32))
      (Ideal.div (Ideal.ofBits .f32 1073741824#32 * vl) (Ideal.ofBits .f32 1098907648#32))
      (Ideal.div delta (Ideal.ofBits .f32 1098907648#32) * ∑ x, f x) (Ideal.ofBits .f32 1098907648#32 * vl) oo W
      (fun j w => planeS q (BitVec.ofNat 32 j) w) = refIpS delta vl oo W q := by
  unfold ipS refIpS
  rw [codeSum_eq N hN q hq f hf, bitSum_eq N hN q hq W, ← fold_eq_chainI, ipI_eq]
  have h := ipWord_toInt W (fun j w => planeS q (BitVec.ofNat 32 j) w) (fun w k => N (32 * w + k)) (fun w k => hN _)
    (fun j w k => planeS_getLsbD N hN q hq j w k)
  rw [← h]
  rfl
end final

/-! ## The six results, entry by entry -/

section out
variable (x0 : Fin 80 → Fin 256 → EReal) (x1 : Fin 256 → EReal) (x2 : Fin 256 → Fin 256 → EReal) (x3 : Fin 80 → Fin 256 → EReal)
  (g : Fin 80 → Fin 2560 → Fin 8 → BitVec 32) (nrm oo : Fin 80 → Fin 2560 → EReal) (cnt : Fin 80 → BitVec 32)

/-- The estimated inner product of query `b` and candidate `n`, before masking. -/
def ipOut (b : Fin 80) (n : Fin 2560) : EReal :=
  refIpS (deltaS (x0 b) x1 x2) (vlS (x0 b) x1 x2) (oo b n) (g b n) (codeW (x0 b) x1 x2 (x3 b))
/-- The masked estimated inner product. -/
def ipRes (b : Fin 80) (n : Fin 2560) : EReal := keepS (BitVec.ofNat 32 n) (cnt b) (ipOut x0 x1 x2 x3 g oo b n)
/-- The masked estimated distance. -/
def distRes (b : Fin 80) (n : Fin 2560) : EReal :=
  keepS (BitVec.ofNat 32 n) (cnt b) (distS (nrm b n) (nqS (x0 b) x1) (ipOut x0 x1 x2 x3 g oo b n))
/-- The masked error bound. -/
def boundRes (b : Fin 80) (n : Fin 2560) : EReal :=
  keepS (BitVec.ofNat 32 n) (cnt b) (boundS (nrm b n) (nqS (x0 b) x1) (oo b n))
/-- The eight-bit code of a coordinate. -/
def codeRes (b : Fin 80) (d : Fin 256) : BitVec 8 := BitVec.setWidth 8 (codeW (x0 b) x1 x2 (x3 b) d)
end out

end Cert.Rabitq
end
-- ==== Proof.Prep.lean ====
/-
What the preparing call leaves in its five outputs, entry by entry: the eight-bit codes, the quantiser's step and least
coordinate, the five query factors of the scoring call, and the four bit planes of the codes.
-/
module

public import proofs.«01_k».proof.Proof.Gen.KernelIdeal.Frame
public import Idealize.ShloMosaic.Lib.Pipeline.ValueKit
public import proofs.«01_k».proof.Proof.Spec

@[expose] public section

set_option maxRecDepth 16384

noncomputable section

namespace Cert.KernelIdeal.Value
open Idealize.ShloMosaic Idealize.ShloMosaic.TcCoe Idealize.SL.Sem
open Idealize.ShloMosaic.Pipeline (Dat)
open Cert.KernelIdeal Cert.KernelIdeal.Gen Cert.Rabitq

section point
variable (x0 : FVec Ideal S80x256 .f32) (x1 : FVec Ideal S1x256 .f32) (x2 : FVec Ideal S256x256 .f32) (x3 : FVec Ideal S80x256 .f32)

/-- The queries by row and coordinate. -/
abbrev q0 (b : Fin 80) (d : Fin 256) : EReal := x0 (ix2 b d)
/-- The centroid by coordinate. -/
abbrev q1 (d : Fin 256) : EReal := x1 (ix2 0 d)
/-- The rotation by row and column. -/
abbrev q2 (k d : Fin 256) : EReal := x2 (ix2 k d)

/-- The codes, one by one. -/
theorem codes_point (b : Fin 80) (d : Fin 256) :
    out0_4 (F := Ideal) x0 x1 x2 x3 (ix2 b d) = codeRes (q0 x0) (q1 x1) (q2 x2) (q0 x3) b d := by
  unfold_out out0_4
  canon_tiles x h
  all_goals
    open_payloads
    pointwise
    obtain rfl : b = x 0 := Fin.ext h0
    obtain rfl : d = x 1 := Fin.ext h1
    rw [show x3 x = x3 (ix2 (x 0) (x 1)) from congrArg x3 (eq_ix2 x)]
    exact rfl

/-- The quantiser's steps, one by one. -/
theorem delta_point (b : Fin 80) :
    out0_5 (F := Ideal) x0 x1 x2 x3 (ix1 b) = deltaS (q0 x0 b) (q1 x1) (q2 x2) := by
  unfold_out out0_5
  canon_tiles x h
  all_goals
    open_payloads
    pointwise
    obtain rfl : b = x 0 := Fin.ext h0
    exact rfl

/-- The least coordinates, one by one. -/
theorem vl_point (b : Fin 80) :
    out0_6 (F := Ideal) x0 x1 x2 x3 (ix1 b) = vlS (q0 x0 b) (q1 x1) (q2 x2) := by
  unfold_out out0_6
  canon_tiles x h
  all_goals
    open_payloads
    pointwise
    obtain rfl : b = x 0 := Fin.ext h0
    exact rfl

/-- The query factors of one row, by lane number: lanes 0 to 4 hold a factor, the others zero. -/
def parS (X C : Fin 256 → EReal) (R : Fin 256 → Fin 256 → EReal) (Q : Fin 256 → EReal) (lane : BitVec 32) : EReal :=
  Scalar.select (IntOp.cmpi .eq lane 4#32) (nqS X C)
  (Scalar.select (IntOp.cmpi .eq lane 3#32) (Ideal.ofBits .f32 1098907648#32 * vlS X C R)
  (Scalar.select (IntOp.cmpi .eq lane 2#32) (Ideal.div (deltaS X C R) (Ideal.ofBits .f32 1098907648#32) * ∑ x, qfS X C R Q x)
  (Scalar.select (IntOp.cmpi .eq lane 1#32) (Ideal.div (Ideal.ofBits .f32 1073741824#32 * vlS X C R) (Ideal.ofBits .f32 1098907648#32))
  (Scalar.select (IntOp.cmpi .eq lane 0#32) (Ideal.div (Ideal.ofBits .f32 1073741824#32 * deltaS X C R) (Ideal.ofBits .f32 1098907648#32)) 0))))

/-- The query factors of the scoring call, lane by lane. -/
theorem par_point (b : Fin 80) (l : Fin 128) :
    out0_7 (F := Ideal) x0 x1 x2 x3 (ix2 b l) = parS (q0 x0 b) (q1 x1) (q2 x2) (q0 x3 b) (BitVec.ofNat 32 l) := by
  unfold_out out0_7
  canon_tiles x h
  all_goals
    open_payloads
    pointwise
    obtain rfl : b = x 0 := Fin.ext h0
    obtain rfl : l = x 1 := Fin.ext h1
    unfold parS qfS deltaS vlS rotS nqS
    exact rfl

/-- The codes as 32-bit words, one by one. -/
theorem words_point (b : Fin 80) (d : Fin 256) :
    k0_pay23 (F := Ideal) x0 x1 x2 x3 (ix2 b d) = codeW (q0 x0 b) (q1 x1) (q2 x2) (q0 x3 b) d := by
  unfold k0_pay23
  open_payloads
  pointwise
  exact rfl
end point
end Cert.KernelIdeal.Value
end
-- ==== Proof.Planes.lean ====
/-
The bit planes that the preparing call packs: each plane word is the word of formula `planeS`, whatever the codes are.
-/
module

public import proofs.«01_k».proof.Proof.Prep

@[expose] public section

set_option maxRecDepth 16384

noncomputable section

namespace Cert.KernelIdeal.Value
open Idealize.ShloMosaic Idealize.ShloMosaic.TcCoe Idealize.SL.Sem
open Cert.KernelIdeal Cert.KernelIdeal.Gen Cert.Rabitq

section pack
variable (D : IVec S80x256 32)

/-- The coordinate number of every entry of the packing matrices. -/
abbrev dims : IVec S256x128 32 := iota .tc S256x128 32 [0] iota_S256x128_d0_w32

/-- Plane 0, for any codes. -/
theorem plane0 (z : S1x80x8.Idx) : k0_pay17 (F := Ideal) D dims z = planeS (fun d => D (ix2 (z 1) d)) 0#32 (z 2) := by
  unfold dims; open_payloads; pointwise; exact rfl
/-- Plane 1, for any codes. -/
theorem plane1 (z : S1x80x8.Idx) : k0_pay19 (F := Ideal) D (k0_pay15 dims) (k0_pay16 dims) k0_pay18 z =
    planeS (fun d => D (ix2 (z 1) d)) 1#32 (z 2) := by
  unfold dims; open_payloads; pointwise; exact rfl
/-- Plane 2, for any codes. -/
theorem plane2 (z : S1x80x8.Idx) : k0_pay20 (F := Ideal) D (k0_pay15 dims) (k0_pay16 dims) z =
    planeS (fun d => D (ix2 (z 1) d)) 2#32 (z 2) := by
  unfold dims; open_payloads; pointwise; exact rfl
/-- Plane 3, for any codes. -/
theorem plane3 (z : S1x80x8.Idx) : k0_pay1 (F := Ideal) (k0_pay16 dims) (k0_pay21 D) (k0_pay22 D (k0_pay15 dims)) z =
    planeS (fun d => D (ix2 (z 1) d)) 3#32 (z 2) := by
  unfold dims; open_payloads; pointwise; exact rfl
end pack

section point
variable (x0 : FVec Ideal S80x256 .f32) (x1 : FVec Ideal S1x256 .f32) (x2 : FVec Ideal S256x256 .f32) (x3 : FVec Ideal S80x256 .f32)

/-- The bit planes, word by word. -/
theorem planes_point (j : Fin 4) (b : Fin 80) (w : Fin 8) :
    out0_8 (F := Ideal) x0 x1 x2 x3 (ix3 j b w) = planeS (codeW (q0 x0 b) (q1 x1) (q2 x2) (q0 x3 b)) (BitVec.ofNat 32 j) w := by
  have hD : ∀ b : Fin 80, (fun d => k0_pay23 (F := Ideal) x0 x1 x2 x3 (ix2 b d)) = codeW (q0 x0 b) (q1 x1) (q2 x2) (q0 x3 b) :=
    fun b => funext fun d => words_point x0 x1 x2 x3 b d
  unfold out0_8 k0_pay26 k0_pay25 k0_pay24
  canon_tiles x h
  · obtain rfl : b = x 1 := Fin.ext (by have h : (b : ℕ) = _ := h1; omega)
    obtain rfl : w = x 2 := Fin.ext (by have h : (w : ℕ) = _ := h2; omega)
    obtain rfl : j = 3 := Fin.ext (by have h : (j : ℕ) = _ := h0; show (j : ℕ) = 3; omega)
    exact (plane3 _ x).trans (congrArg (fun q => planeS q 3#32 (x 2)) (hD (x 1)))
  · obtain rfl : b = x 1 := Fin.ext (by have h : (b : ℕ) = _ := h1; omega)
    obtain rfl : w = x 2 := Fin.ext (by have h : (w : ℕ) = _ := h2; omega)
    obtain rfl : j = 2 := Fin.ext (by have h : (j : ℕ) = _ := h0; show (j : ℕ) = 2; omega)
    exact (plane2 _ x).trans (congrArg (fun q => planeS q 2#32 (x 2)) (hD (x 1)))
  · obtain rfl : b = x 1 := Fin.ext (by have h : (b : ℕ) = _ := h1; omega)
    obtain rfl : w = x 2 := Fin.ext (by have h : (w : ℕ) = _ := h2; omega)
    obtain rfl : j = 1 := Fin.ext (by have h : (j : ℕ) = _ := h0; show (j : ℕ) = 1; omega)
    exact (plane1 _ x).trans (congrArg (fun q => planeS q 1#32 (x 2)) (hD (x 1)))
  · obtain rfl : b = x 1 := Fin.ext (by have h : (b : ℕ) = _ := h1; omega)
    obtain rfl : w = x 2 := Fin.ext (by have h : (w : ℕ) = _ := h2; omega)
    obtain rfl : j = 0 := Fin.ext (by have h : (j : ℕ) = _ := h0; show (j : ℕ) = 0; omega)
    exact (plane0 _ x).trans (congrArg (fun q => planeS q 0#32 (x 2)) (hD (x 1)))
end point
end Cert.KernelIdeal.Value
end
-- ==== Proof.PrepArr.lean ====
/-
The five output arrays of the preparing call, from the arrays it reads.
-/
module

public import proofs.«01_k».proof.Proof.Planes

@[expose] public section

set_option maxRecDepth 16384

noncomputable section

namespace Cert.KernelIdeal.Value
open Idealize.ShloMosaic Idealize.ShloMosaic.TcCoe Idealize.SL.Sem
open Idealize.ShloMosaic.Pipeline (Dat)
open Cert.KernelIdeal Cert.KernelIdeal.Gen Cert.Rabitq
variable (V : (c : Dev nD) → (b : Ref sig .tc) → Buf (Elt Ideal) ((c : Thread nD τ).loc b))

/-- The queries, by row and coordinate. -/
abbrev qX (c : Dev nD) (b : Fin 80) (d : Fin 256) : EReal := V c main_arg0 (ix2 b d)
/-- The centroid, by coordinate. -/
abbrev qC (c : Dev nD) (d : Fin 256) : EReal := V c main_v0 (ix2 0 d)
/-- The rotation, by row and column. -/
abbrev qR (c : Dev nD) (k d : Fin 256) : EReal := V c main_arg2 (ix2 k d)
/-- The rounding offsets, by row and coordinate. -/
abbrev qO (c : Dev nD) (b : Fin 80) (d : Fin 256) : EReal := V c main_arg3 (ix2 b d)

/-- The index maps of all nine windows: the one grid point takes every array whole. -/
theorem idx0 : ∀ t : Fin cfg0.N, win0_0.index t = ![0, 0] ∧ win0_1.index t = ![0, 0] ∧ win0_2.index t = ![0, 0] ∧
    win0_3.index t = ![0, 0] ∧ win0_4.index t = ![0, 0] ∧ win0_5.index t = ![0] ∧ win0_6.index t = ![0] ∧
    win0_7.index t = ![0, 0] ∧ win0_8.index t = ![0, 0, 0] :=
  (by decide +kernel : ∀ t : Fin grid0.N, _)

section blocks
variable (c : Dev nD) (t : Fin cfg0.N)
/-- The block of queries is the whole array. -/
theorem blkX : q0 (iblk0 V c 0 t) = qX V c := by
  funext b d; show iblk0 V c 0 t (ix2 b d) = V c main_arg0 (ix2 b d); blk_ext [iblk0, idx0 t]
/-- The centroid's block is the whole array. -/
theorem blkC : q1 (iblk0 V c 1 t) = qC V c := by
  funext d; show iblk0 V c 1 t (ix2 0 d) = V c main_v0 (ix2 0 d); blk_ext [iblk0, idx0 t]
/-- The rotation's block is the whole array. -/
theorem blkR : q2 (iblk0 V c 2 t) = qR V c := by
  funext k d; show iblk0 V c 2 t (ix2 k d) = V c main_arg2 (ix2 k d); blk_ext [iblk0, idx0 t]
/-- The block of offsets is the whole array. -/
theorem blkO : q0 (iblk0 V c 3 t) = qO V c := by
  funext b d; show iblk0 V c 3 t (ix2 b d) = V c main_arg3 (ix2 b d); blk_ext [iblk0, idx0 t]
end blocks

/-- One entry of the codes block. -/
theorem codes_blk (c : Dev nD) (t : Fin cfg0.N) (y : S80x256.Idx) (i : Fin 80) (j : Fin 256) (hi : (i : ℕ) = y 0) (hj : (j : ℕ) = y 1) :
    @Eq (BitVec 8) (out0_4 (F := Ideal) (iblk0 V c 0 t) (iblk0 V c 1 t) (iblk0 V c 2 t) (iblk0 V c 3 t) y) (codeRes (qX V c) (qC V c) (qR V c) (qO V c) i j) := by
  obtain rfl : i = y 0 := Fin.ext hi
  obtain rfl : j = y 1 := Fin.ext hj
  refine (congrArg _ (eq_ix2 y)).trans ((codes_point _ _ _ _ (y 0) (y 1)).trans ?_)
  rw [blkX, blkC, blkR, blkO]
/-- The array of codes after the call. -/
theorem codes_arr (c : Dev nD) : (dat0 V c).arrAt 4 cfg0.N = fun i : S80x256.Idx => codeRes (qX V c) (qC V c) (qR V c) (qO V c) (i 0) (i 1) := by
  refine (dat0 V c).arrAt_eq_of_covers 4 _ (by decide +kernel) fun t _ y => ?_
  blk_simp
  rw [after0_4]
  refine codes_blk V c t y _ _ ?_ ?_
  all_goals blk_simp [idx0 t]

/-- One entry of the steps block. -/
theorem delta_blk (c : Dev nD) (t : Fin cfg0.N) (y : S80.Idx) (i : Fin 80) (hi : (i : ℕ) = y 0) :
    @Eq (EReal) (out0_5 (F := Ideal) (iblk0 V c 0 t) (iblk0 V c 1 t) (iblk0 V c 2 t) (iblk0 V c 3 t) y) (deltaS (qX V c (i)) (qC V c) (qR V c)) := by
  obtain rfl : i = y 0 := Fin.ext hi
  refine (congrArg _ (eq_ix1 y)).trans ((delta_point _ _ _ _ (y 0)).trans ?_)
  rw [blkX, blkC, blkR]
/-- The array of steps after the call. -/
theorem delta_arr (c : Dev nD) : (dat0 V c).arrAt 5 cfg0.N = fun i : S80.Idx => deltaS (qX V c ((i 0))) (qC V c) (qR V c) := by
  refine (dat0 V c).arrAt_eq_of_covers 5 _ (by decide +kernel) fun t _ y => ?_
  blk_simp
  rw [after0_5]
  refine delta_blk V c t y _ ?_
  all_goals blk_simp [idx0 t]

/-- One entry of the least coordinates block. -/
theorem vl_blk (c : Dev nD) (t : Fin cfg0.N) (y : S80.Idx) (i : Fin 80) (hi : (i : ℕ) = y 0) :
    @Eq (EReal) (out0_6 (F := Ideal) (iblk0 V c 0 t) (iblk0 V c 1 t) (iblk0 V c 2 t) (iblk0 V c 3 t) y) (vlS (qX V c (i)) (qC V c) (qR V c)) := by
  obtain rfl : i = y 0 := Fin.ext hi
  refine (congrArg _ (eq_ix1 y)).trans ((vl_point _ _ _ _ (y 0)).trans ?_)
  rw [blkX, blkC, blkR]
/-- The array of least coordinates after the call. -/
theorem vl_arr (c : Dev nD) : (dat0 V c).arrAt 6 cfg0.N = fun i : S80.Idx => vlS (qX V c ((i 0))) (qC V c) (qR V c) := by
  refine (dat0 V c).arrAt_eq_of_covers 6 _ (by decide +kernel) fun t _ y => ?_
  blk_simp
  rw [after0_6]
  refine vl_blk V c t y _ ?_
  all_goals blk_simp [idx0 t]

/-- One entry of the query factors block. -/
theorem par_blk (c : Dev nD) (t : Fin cfg0.N) (y : S80x128.Idx) (i : Fin 80) (j : ℕ) (hi : (i : ℕ) = y 0) (hj : j = y 1) :
    @Eq (EReal) (out0_7 (F := Ideal) (iblk0 V c 0 t) (iblk0 V c 1 t) (iblk0 V c 2 t) (iblk0 V c 3 t) y) (parS (qX V c (i)) (qC V c) (qR V c) (qO V c (i)) (BitVec.ofNat 32 (j))) := by
  obtain rfl : i = y 0 := Fin.ext hi
  subst hj
  refine (congrArg _ (eq_ix2 y)).trans ((par_point _ _ _ _ (y 0) (y 1)).trans ?_)
  rw [blkX, blkC, blkR, blkO]
/-- The array of query factors after the call. -/
theorem par_arr (c : Dev nD) : (dat0 V c).arrAt 7 cfg0.N = fun i : S80x128.Idx => parS (qX V c ((i 0))) (qC V c) (qR V c) (qO V c ((i 0))) (BitVec.ofNat 32 ((i 1))) := by
  refine (dat0 V c).arrAt_eq_of_covers 7 _ (by decide +kernel) fun t _ y => ?_
  blk_simp
  rw [after0_7]
  refine par_blk V c t y _ _ ?_ ?_
  all_goals blk_simp [idx0 t]

/-- One entry of the bit planes block. -/
theorem planes_blk (c : Dev nD) (t : Fin cfg0.N) (y : S4x80x8.Idx) (i : ℕ) (j : Fin 80) (k : Fin 8) (hi : i = y 0) (hj : (j : ℕ) = y 1) (hk : (k : ℕ) = y 2) :
    @Eq (BitVec 32) (out0_8 (F := Ideal) (iblk0 V c 0 t) (iblk0 V c 1 t) (iblk0 V c 2 t) (iblk0 V c 3 t) y) (planeS (codeW (qX V c (j)) (qC V c) (qR V c) (qO V c (j))) (BitVec.ofNat 32 (i)) (k)) := by
  subst hi
  obtain rfl : j = y 1 := Fin.ext hj
  obtain rfl : k = y 2 := Fin.ext hk
  refine (congrArg _ (eq_ix3 y)).trans ((planes_point _ _ _ _ (y 0) (y 1) (y 2)).trans ?_)
  rw [blkX, blkC, blkR, blkO]
/-- The array of bit planes after the call. -/
theorem planes_arr (c : Dev nD) : (dat0 V c).arrAt 8 cfg0.N = fun i : S4x80x8.Idx => planeS (codeW (qX V c ((i 1))) (qC V c) (qR V c) (qO V c ((i 1)))) (BitVec.ofNat 32 ((i 0))) ((i 2)) := by
  refine (dat0 V c).arrAt_eq_of_covers 8 _ (by decide +kernel) fun t _ y => ?_
  blk_simp
  rw [after0_8]
  refine planes_blk V c t y _ _ _ ?_ ?_ ?_
  all_goals blk_simp [idx0 t]

end Cert.KernelIdeal.Value
end
-- ==== Proof.Score.lean ====
module

public import proofs.«01_k».proof.Proof.Gen.KernelIdeal.Frame
public import Idealize.ShloMosaic.Lib.Pipeline.ValueKit
public import proofs.«01_k».proof.Proof.Spec

@[expose] public section

set_option maxRecDepth 16384

noncomputable section

namespace Cert.KernelIdeal.Value
open Idealize.ShloMosaic Idealize.ShloMosaic.TcCoe Idealize.SL.Sem
open Idealize.ShloMosaic.Pipeline (Dat)
open Cert.KernelIdeal Cert.KernelIdeal.Gen Cert.Rabitq
variable (V : (c : Dev nD) → (b : Ref sig .tc) → Buf (Elt Ideal) ((c : Thread nD τ).loc b))

/-! ## The candidate count of a row -/

/-- The candidate count of the row, picked out of the eight of the block by comparing the row number. -/
def ladder (N : Fin 8 → BitVec 32) (r : BitVec 32) : BitVec 32 :=
  Scalar.select (IntOp.cmpi .eq r 7#32) (N 7) (Scalar.select (IntOp.cmpi .eq r 6#32) (N 6)
  (Scalar.select (IntOp.cmpi .eq r 5#32) (N 5) (Scalar.select (IntOp.cmpi .eq r 4#32) (N 4)
  (Scalar.select (IntOp.cmpi .eq r 3#32) (N 3) (Scalar.select (IntOp.cmpi .eq r 2#32) (N 2)
  (Scalar.select (IntOp.cmpi .eq r 1#32) (N 1) (Scalar.select (IntOp.cmpi .eq r 0#32) (N 0) 0#32)))))))

/-- Picking by row number gives the row's own count. -/
theorem ladder_eq (N : Fin 8 → BitVec 32) : ∀ r : Fin 8, ladder N (BitVec.ofNat 32 r) = N r := by
  intro r; fin_cases r <;> rfl

/-! ## One entry of the arrays -/

section arrays
variable (A0 : IVec S80 32) (A1 : FVec Ideal S80x128 .f32) (A2 : IVec S4x80x8 32) (A3 : IVec S200x8x8x128 32)
  (A4 A5 : FVec Ideal S1600x128 .f32)

/-- The row of the tiled factor arrays that holds row `b`, candidate `n`. -/
def rowOf (b : Fin 80) (n : Fin 2560) : Fin 1600 := ⟨160 * (b / 8) + 8 * (n / 128) + b % 8, by omega⟩
/-- The chunk of eight rows and 128 candidates that holds row `b`, candidate `n`. -/
def chunkOf (b : Fin 80) (n : Fin 2560) : Fin 200 := ⟨20 * (b / 8) + n / 128, by omega⟩
/-- The lane of candidate `n` in its chunk. -/
def laneOf (n : Fin 2560) : Fin 128 := ⟨n % 128, by omega⟩
/-- The row of query `b` in its block of eight. -/
def subOf (b : Fin 80) : Fin 8 := ⟨b % 8, by omega⟩

/-- The estimated inner product at row `b`, candidate `n`, before masking. -/
def ipG (b : Fin 80) (n : Fin 2560) : EReal :=
  ipS (A1 (ix2 b 0)) (A1 (ix2 b 1)) (A1 (ix2 b 2)) (A1 (ix2 b 3)) (A5 (ix2 (rowOf b n) (laneOf n)))
    (fun w => A3 (ix4 (chunkOf b n) w (subOf b) (laneOf n))) (fun j w => A2 (ix3 j b w))
/-- The estimated distance at row `b`, candidate `n`. -/
def distG (b : Fin 80) (n : Fin 2560) : EReal :=
  keepS (BitVec.ofNat 32 n) (A0 (ix1 b))
    (distS (A4 (ix2 (rowOf b n) (laneOf n))) (A1 (ix2 b 4)) (ipG A1 A2 A3 A5 b n))
/-- The error bound at row `b`, candidate `n`. -/
def boundG (b : Fin 80) (n : Fin 2560) : EReal :=
  keepS (BitVec.ofNat 32 n) (A0 (ix1 b))
    (boundS (A4 (ix2 (rowOf b n) (laneOf n))) (A1 (ix2 b 4)) (A5 (ix2 (rowOf b n) (laneOf n))))
/-- The masked estimated inner product at row `b`, candidate `n`. -/
def ipMG (b : Fin 80) (n : Fin 2560) : EReal :=
  keepS (BitVec.ofNat 32 n) (A0 (ix1 b)) (ipG A1 A2 A3 A5 b n)
end arrays

/-! ## The blocks of one grid point in terms of the arrays -/

/-- The index maps of all nine windows. -/
theorem idx : ∀ t : Fin cfg1.N, win1_0.index t = ![0] ∧ win1_1.index t = ![t.val, 0] ∧ win1_2.index t = ![0, t.val, 0] ∧
    win1_3.index t = ![t.val, 0, 0, 0] ∧ win1_4.index t = ![t.val, 0] ∧ win1_5.index t = ![t.val, 0] ∧
    win1_6.index t = ![t.val, 0] ∧ win1_7.index t = ![t.val, 0] ∧ win1_8.index t = ![t.val, 0] :=
  (by decide +kernel : ∀ t : Fin grid1.N, _)

/-- The offset the kernel reads a candidate count at. -/
theorem off1 : ∀ (t : Fin cfg1.N) (j : Fin 8), k1_off1 (grid1.coords t) (BitVec.ofNat 32 j) 0 = 8 * t.val + j :=
  (by decide +kernel : ∀ (t : Fin grid1.N) (j : Fin 8), _)

theorem N_eq : cfg1.N = 10 := by decide +kernel

/-- Query factors: row `r` of block `t` is row `8 t + r`. -/
theorem blk1 (c : Dev nD) (t : Fin cfg1.N) (r : Fin 8) (i : Fin 128) (b : Fin 80) (hb : (b : ℕ) = 8 * t + r) :
    iblk1 V c 1 t (ix2 r i) = V c main_v1_3 (ix2 b i) := by
  blk_ext [iblk1, idx t]
/-- Bit planes: row `r` of block `t` is row `8 t + r`. -/
theorem blk2 (c : Dev nD) (t : Fin cfg1.N) (j : Fin 4) (r w : Fin 8) (b : Fin 80) (hb : (b : ℕ) = 8 * t + r) :
    iblk1 V c 2 t (ix3 j r w) = V c main_v1_4 (ix3 j b w) := by
  blk_ext [iblk1, idx t]
/-- Data words: chunk `k` of block `t` is chunk `20 t + k`. -/
theorem blk3 (c : Dev nD) (t : Fin cfg1.N) (k : Fin 20) (w r : Fin 8) (l : Fin 128) (q : Fin 200) (hq : (q : ℕ) = 20 * t + k) :
    iblk1 V c 3 t (ix4 k w r l) = V c main_v5 (ix4 q w r l) := by
  blk_ext [iblk1, idx t]
/-- Norms: row `ρ` of block `t` is row `160 t + ρ`. -/
theorem blk4 (c : Dev nD) (t : Fin cfg1.N) (ρ : Fin 160) (l : Fin 128) (q : Fin 1600) (hq : (q : ℕ) = 160 * t + ρ) :
    iblk1 V c 4 t (ix2 ρ l) = V c main_v8 (ix2 q l) := by
  blk_ext [iblk1, idx t]
/-- The `oo` factors: row `ρ` of block `t` is row `160 t + ρ`. -/
theorem blk5 (c : Dev nD) (t : Fin cfg1.N) (ρ : Fin 160) (l : Fin 128) (q : Fin 1600) (hq : (q : ℕ) = 160 * t + ρ) :
    iblk1 V c 5 t (ix2 ρ l) = V c main_v11 (ix2 q l) := by
  blk_ext [iblk1, idx t]
/-- Candidate counts: the block is the whole array. -/
theorem blk0 (c : Dev nD) (t : Fin cfg1.N) (a b : Fin 80) (hb : (a : ℕ) = b) :
    iblk1 V c 0 t (ix1 a) = V c main_arg7 (ix1 b) := by
  blk_ext [iblk1, idx t]

/-! ## One tile of 128 candidates -/

section tile
variable (c : Dev nD) (t : Fin cfg1.N)

/-- The estimated inner product in terms of the blocks. -/
def ipB (X1 : FVec Ideal S8x128 .f32) (X2 : IVec S4x8x8 32) (X3 : IVec S20x8x8x128 32) (X5 : FVec Ideal S160x128 .f32)
    (k : Fin 20) (r : Fin 8) (l : Fin 128) (ρ : Fin 160) : EReal :=
  ipS (X1 (ix2 r 0)) (X1 (ix2 r 1)) (X1 (ix2 r 2)) (X1 (ix2 r 3))
    (X5 (ix2 ρ l)) (fun w => X3 (ix4 k w r l)) (fun j w => X2 (ix3 j r w))
/-- The estimated inner product in terms of the blocks of one grid point. -/
abbrev ipAt (k : Fin 20) (r : Fin 8) (l : Fin 128) (ρ : Fin 160) : EReal :=
  ipB (iblk1 V c 1 t) (iblk1 V c 2 t) (iblk1 V c 3 t) (iblk1 V c 5 t) k r l ρ
/-- The candidate count of row `r` of the block. -/
def countAt (r : Fin 8) : BitVec 32 :=
  ladder (fun j => iblk1 V c 0 t (ix1 ⟨k1_off1 (grid1.coords t) (BitVec.ofNat 32 j) 0, by
    have h := t.isLt; have hN := N_eq; have ho := off1 t j; omega⟩)) (BitVec.ofNat 32 r)

theorem countAt_eq (r : Fin 8) (b : Fin 80) (hb : (b : ℕ) = 8 * t + r) : countAt V c t r = V c main_arg7 (ix1 b) := by
  unfold countAt
  rw [ladder_eq]
  exact blk0 V c t _ _ ((off1 t r).trans hb.symm)

theorem ipAt_eq (k : Fin 20) (r : Fin 8) (l : Fin 128) (ρ : Fin 160) (b : Fin 80) (n : Fin 2560)
    (hb : (b : ℕ) = 8 * t + r) (hn : (n : ℕ) = 128 * k + l) (hρ : (ρ : ℕ) = 8 * k + r) :
    ipAt V c t k r l ρ = ipG (V c main_v1_3) (V c main_v1_4) (V c main_v5) (V c main_v11) b n := by
  have hl : laneOf n = l := Fin.ext (by show (n : ℕ) % 128 = l; omega)
  have hs : subOf b = r := Fin.ext (by show (b : ℕ) % 8 = r; omega)
  unfold ipAt ipB ipG
  simp only [hl, hs, blk1 V c t _ _ b hb, blk2 V c t _ _ _ b hb]
  rw [blk5 V c t ρ l (rowOf b n) (by show 160 * ((b : ℕ) / 8) + 8 * ((n : ℕ) / 128) + (b : ℕ) % 8 = _; omega)]
  simp only [fun w => blk3 V c t k w r l (chunkOf b n) (by show 20 * ((b : ℕ) / 8) + (n : ℕ) / 128 = _; omega)]

/-- The candidate count of the row as the body spells it. -/
theorem count_form (r : Fin 8)
    (h0 : k1_off1 (grid1.coords t) (0#32) 0 < 80)
    (h1 : k1_off1 (grid1.coords t) (1#32) 0 < 80)
    (h2 : k1_off1 (grid1.coords t) (2#32) 0 < 80)
    (h3 : k1_off1 (grid1.coords t) (3#32) 0 < 80)
    (h4 : k1_off1 (grid1.coords t) (4#32) 0 < 80)
    (h5 : k1_off1 (grid1.coords t) (5#32) 0 < 80)
    (h6 : k1_off1 (grid1.coords t) (6#32) 0 < 80)
    (h7 : k1_off1 (grid1.coords t) (7#32) 0 < 80) :
    Scalar.select (IntOp.cmpi .eq (BitVec.ofNat 32 r) 7#32) (iblk1 V c 0 t (ix1 ⟨_, h7⟩)) (
    Scalar.select (IntOp.cmpi .eq (BitVec.ofNat 32 r) 6#32) (iblk1 V c 0 t (ix1 ⟨_, h6⟩)) (
    Scalar.select (IntOp.cmpi .eq (BitVec.ofNat 32 r) 5#32) (iblk1 V c 0 t (ix1 ⟨_, h5⟩)) (
    Scalar.select (IntOp.cmpi .eq (BitVec.ofNat 32 r) 4#32) (iblk1 V c 0 t (ix1 ⟨_, h4⟩)) (
    Scalar.select (IntOp.cmpi .eq (BitVec.ofNat 32 r) 3#32) (iblk1 V c 0 t (ix1 ⟨_, h3⟩)) (
    Scalar.select (IntOp.cmpi .eq (BitVec.ofNat 32 r) 2#32) (iblk1 V c 0 t (ix1 ⟨_, h2⟩)) (
    Scalar.select (IntOp.cmpi .eq (BitVec.ofNat 32 r) 1#32) (iblk1 V c 0 t (ix1 ⟨_, h1⟩)) (
    Scalar.select (IntOp.cmpi .eq (BitVec.ofNat 32 r) 0#32) (iblk1 V c 0 t (ix1 ⟨_, h0⟩)) 0#32))))))) = countAt V c t r := by
  unfold countAt ladder
  exact rfl
/-- The distance of one candidate as the body spells it. -/
theorem dist_form (X1 : FVec Ideal S8x128 .f32) (X2 : IVec S4x8x8 32) (X3 : IVec S20x8x8x128 32) (X4 X5 : FVec Ideal S160x128 .f32)
    (nw lw : BitVec 32) (k : Fin 20) (r : Fin 8) (l : Fin 128) (ρ : Fin 160) :
    Scalar.select (IntOp.cmpi .slt lw nw)
      (X4 (ix2 ρ l) * X4 (ix2 ρ l) + X1 (ix2 r 4) * X1 (ix2 r 4)
        - Ideal.ofBits .f32 1073741824#32 * X4 (ix2 ρ l) * X1 (ix2 r 4)
          * ipB X1 X2 X3 X5 k r l ρ) 0 =
    keepS lw nw (distS (X4 (ix2 ρ l)) (X1 (ix2 r 4)) (ipB X1 X2 X3 X5 k r l ρ)) := rfl

/-- The bound of one candidate as the body spells it. -/
theorem bound_form (X1 : FVec Ideal S8x128 .f32) (X4 X5 : FVec Ideal S160x128 .f32)
    (nw lw : BitVec 32) (r : Fin 8) (l : Fin 128) (ρ : Fin 160) :
    Scalar.select (IntOp.cmpi .slt lw nw)
      (Ideal.div (Ideal.div (Ideal.ofBits .f32 1073741824#32 * X4 (ix2 ρ l) * X1 (ix2 r 4)
        * Ideal.sqrt (1 - X5 (ix2 ρ l) * X5 (ix2 ρ l))) (X5 (ix2 ρ l))
        * Ideal.ofBits .f32 1072902963#32) (Ideal.ofBits .f32 1098874848#32)) 0 =
    keepS lw nw (boundS (X4 (ix2 ρ l)) (X1 (ix2 r 4)) (X5 (ix2 ρ l))) := rfl

/-- The estimated inner product of one candidate as the body spells it. -/
theorem ip_form (X1 : FVec Ideal S8x128 .f32) (X2 : IVec S4x8x8 32) (X3 : IVec S20x8x8x128 32) (X5 : FVec Ideal S160x128 .f32)
    (nw lw : BitVec 32) (k : Fin 20) (r : Fin 8) (l : Fin 128) (ρ : Fin 160) :
    Scalar.select (IntOp.cmpi .slt lw nw) (ipB X1 X2 X3 X5 k r l ρ) 0 = keepS lw nw (ipB X1 X2 X3 X5 k r l ρ) := rfl

/-- One tile of the distance output. -/
theorem dist_tile (y : S8x2560.Idx) (b : Fin 80) (n : Fin 2560) (hb : (b : ℕ) = 8 * t + (y 0 : ℕ)) (hn : (n : ℕ) = (y 1 : ℕ))
    (k : Fin 20) (r : Fin 8) (l : Fin 128) (ρ : Fin 160) (lw : BitVec 32) (h0 : (y 0 : ℕ) = r) (h1 : (y 1 : ℕ) = 128 * k + l)
    (hρ : (ρ : ℕ) = 8 * k + r) (hl : lw = BitVec.ofNat 32 (128 * k + l)) :
    keepS lw (countAt V c t r) (distS (iblk1 V c 4 t (ix2 ρ l)) (iblk1 V c 1 t (ix2 r 4)) (ipAt V c t k r l ρ)) =
      distG (V c main_arg7) (V c main_v1_3) (V c main_v1_4) (V c main_v5) (V c main_v8) (V c main_v11) b n := by
  have hl' : laneOf n = l := Fin.ext (by show (n : ℕ) % 128 = l; omega)
  unfold distG
  rw [countAt_eq V c t r b (by omega), ipAt_eq V c t k r l ρ b n (by omega) (by omega) hρ, blk1 V c t r 4 b (by omega),
    blk4 V c t ρ l (rowOf b n) (by show 160 * ((b : ℕ) / 8) + 8 * ((n : ℕ) / 128) + (b : ℕ) % 8 = _; omega), hl', hl, hn, h1]

/-- One tile of the bound output. -/
theorem bound_tile (y : S8x2560.Idx) (b : Fin 80) (n : Fin 2560) (hb : (b : ℕ) = 8 * t + (y 0 : ℕ)) (hn : (n : ℕ) = (y 1 : ℕ))
    (r : Fin 8) (l : Fin 128) (ρ : Fin 160) (lw : BitVec 32) (h0 : (y 0 : ℕ) = r) (h1 : (y 1 : ℕ) % 128 = l)
    (hρ : (ρ : ℕ) = 8 * ((y 1 : ℕ) / 128) + r) (hl : lw = BitVec.ofNat 32 (y 1 : ℕ)) :
    keepS lw (countAt V c t r) (boundS (iblk1 V c 4 t (ix2 ρ l)) (iblk1 V c 1 t (ix2 r 4)) (iblk1 V c 5 t (ix2 ρ l))) =
      boundG (V c main_arg7) (V c main_v1_3) (V c main_v8) (V c main_v11) b n := by
  have hl' : laneOf n = l := Fin.ext (by show (n : ℕ) % 128 = l; omega)
  have hr : ((rowOf b n : Fin 1600) : ℕ) = 160 * t + ρ := by
    show 160 * ((b : ℕ) / 8) + 8 * ((n : ℕ) / 128) + (b : ℕ) % 8 = _; omega
  unfold boundG
  rw [countAt_eq V c t r b (by omega), blk1 V c t r 4 b (by omega), blk4 V c t ρ l (rowOf b n) hr,
    blk5 V c t ρ l (rowOf b n) hr, hl', hl, hn]

/-- One tile of the inner-product output. -/
theorem ip_tile (y : S8x2560.Idx) (b : Fin 80) (n : Fin 2560) (hb : (b : ℕ) = 8 * t + (y 0 : ℕ)) (hn : (n : ℕ) = (y 1 : ℕ))
    (k : Fin 20) (r : Fin 8) (l : Fin 128) (ρ : Fin 160) (lw : BitVec 32) (h0 : (y 0 : ℕ) = r) (h1 : (y 1 : ℕ) = 128 * k + l)
    (hρ : (ρ : ℕ) = 8 * k + r) (hl : lw = BitVec.ofNat 32 (128 * k + l)) :
    keepS lw (countAt V c t r) (ipAt V c t k r l ρ) =
      ipMG (V c main_arg7) (V c main_v1_3) (V c main_v1_4) (V c main_v5) (V c main_v11) b n := by
  unfold ipMG
  rw [countAt_eq V c t r b (by omega), ipAt_eq V c t k r l ρ b n (by omega) (by omega) hρ, hl, hn, h1]

/-- Adding a lane number to a tile's first lane number, in 32-bit words. -/
theorem lane_word (p q s : ℕ) (hs : s = p + q) : BitVec.ofNat 32 q + BitVec.ofNat 32 p = BitVec.ofNat 32 s := by
  subst hs; rw [Nat.add_comm p q]; exact (BitVec.ofNat_add q p).symm

end tile

end Cert.KernelIdeal.Value
end
-- ==== Proof.ScoreBlock.lean ====
module

public import proofs.«01_k».proof.Proof.Score

@[expose] public section

set_option maxRecDepth 16384

noncomputable section

namespace Cert.KernelIdeal.Value
open Idealize.ShloMosaic Idealize.ShloMosaic.TcCoe Idealize.SL.Sem
open Idealize.ShloMosaic.Pipeline (Dat)
open Cert.KernelIdeal Cert.KernelIdeal.Gen Cert.Rabitq
variable (V : (c : Dev nD) → (b : Ref sig .tc) → Buf (Elt Ideal) ((c : Thread nD τ).loc b))

set_option maxHeartbeats 2000000 in
/-- One entry of the distance block a grid point leaves. -/
theorem dist_point (c : Dev nD) (t : Fin cfg1.N) (y : S8x2560.Idx) (b : Fin 80) (n : Fin 2560)
    (hb : (b : ℕ) = 8 * t + (y 0 : ℕ)) (hn : (n : ℕ) = (y 1 : ℕ)) :
    (outsAt1 V c t).1 y =
      distG (V c main_arg7) (V c main_v1_3) (V c main_v1_4) (V c main_v5) (V c main_v8) (V c main_v11) b n := by
  rw [outsAt1]; frame_out
  canon_tiles x h
  all_goals
    open_payloads
    pointwise
    generalize hnw : Scalar.select (IntOp.cmpi .eq (BitVec.ofNat 32 ↑(x 0)) 7#32) _ _ = nw
    obtain rfl : countAt V c t (x 0) = nw := (count_form V c t (x 0) _ _ _ _ _ _ _ _).symm.trans hnw
    refine (dist_form (iblk1 V c 1 t) (iblk1 V c 2 t) (iblk1 V c 3 t) (iblk1 V c 4 t) (iblk1 V c 5 t) _ _ _ (x 0) (x 1) _).trans
      (dist_tile V c t y b n hb hn _ (x 0) (x 1) _ _ h0 ?_ ?_ ?_)
    · first | exact h1 | exact h1.trans (Nat.zero_add _).symm
    · first | exact rfl | exact (Nat.zero_add _).symm
    · exact lane_word _ _ _ rfl

set_option maxHeartbeats 2000000 in
/-- One entry of the inner-product block a grid point leaves. -/
theorem ip_point (c : Dev nD) (t : Fin cfg1.N) (y : S8x2560.Idx) (b : Fin 80) (n : Fin 2560)
    (hb : (b : ℕ) = 8 * t + (y 0 : ℕ)) (hn : (n : ℕ) = (y 1 : ℕ)) :
    (outsAt1 V c t).2.2 y =
      ipMG (V c main_arg7) (V c main_v1_3) (V c main_v1_4) (V c main_v5) (V c main_v11) b n := by
  rw [outsAt1]; frame_out
  canon_tiles x h
  all_goals
    open_payloads
    pointwise
    generalize hnw : Scalar.select (IntOp.cmpi .eq (BitVec.ofNat 32 ↑(x 0)) 7#32) _ _ = nw
    obtain rfl : countAt V c t (x 0) = nw := (count_form V c t (x 0) _ _ _ _ _ _ _ _).symm.trans hnw
    refine (ip_form (iblk1 V c 1 t) (iblk1 V c 2 t) (iblk1 V c 3 t) (iblk1 V c 5 t) _ _ _ (x 0) (x 1) _).trans
      (ip_tile V c t y b n hb hn _ (x 0) (x 1) _ _ h0 ?_ ?_ ?_)
    · first | exact h1 | exact h1.trans (Nat.zero_add _).symm
    · first | exact rfl | exact (Nat.zero_add _).symm
    · exact lane_word _ _ _ rfl

set_option maxHeartbeats 2000000 in
/-- One entry of the bound block a grid point leaves. -/
theorem bound_point (c : Dev nD) (t : Fin cfg1.N) (y : S8x2560.Idx) (b : Fin 80) (n : Fin 2560)
    (hb : (b : ℕ) = 8 * t + (y 0 : ℕ)) (hn : (n : ℕ) = (y 1 : ℕ)) :
    (outsAt1 V c t).2.1 y =
      boundG (V c main_arg7) (V c main_v1_3) (V c main_v8) (V c main_v11) b n := by
  rw [outsAt1]; frame_out
  canon_tiles x h
  all_goals
    open_payloads
    pointwise
    generalize hnw : Scalar.select (IntOp.cmpi .eq (BitVec.ofNat 32 ↑(x 0)) 7#32) _ _ = nw
    obtain rfl : countAt V c t (x 0) = nw := (count_form V c t (x 0) _ _ _ _ _ _ _ _).symm.trans hnw
    refine (bound_form (iblk1 V c 1 t) (iblk1 V c 4 t) (iblk1 V c 5 t) _ _ (x 0) (x 1) _).trans
      (bound_tile V c t y b n hb hn (x 0) (x 1) _ _ h0 ?_ ?_ ?_)
    · show (y 1 : ℕ) % 128 = (x 1 : ℕ); omega
    · dsimp only; omega
    · rw [h1]; first | exact lane_word _ _ _ rfl | exact lane_word 0 _ _ (Nat.zero_add _).symm

end Cert.KernelIdeal.Value
end
-- ==== Proof.ScoreArr.lean ====
module

public import proofs.«01_k».proof.Proof.ScoreBlock

@[expose] public section

set_option maxRecDepth 16384

noncomputable section

namespace Cert.KernelIdeal.Value
open Idealize.ShloMosaic Idealize.ShloMosaic.TcCoe Idealize.SL.Sem
open Idealize.ShloMosaic.Pipeline (Dat)
open Cert.KernelIdeal Cert.KernelIdeal.Gen Cert.Rabitq
variable (V : (c : Dev nD) → (b : Ref sig .tc) → Buf (Elt Ideal) ((c : Thread nD τ).loc b))

/-! ## The three output arrays of the scoring call -/

/-- The distance array after the call. -/
theorem dist_arr (c : Dev nD) : (dat1 V c).arrAt 6 cfg1.N = fun i : S80x2560.Idx =>
    distG (V c main_arg7) (V c main_v1_3) (V c main_v1_4) (V c main_v5) (V c main_v8) (V c main_v11) (i 0) (i 1) := by
  refine (dat1 V c).arrAt_eq_of_covers 6 _ (by decide +kernel) fun t _ y => ?_
  blk_simp
  rw [after1_6]
  refine dist_point V c t y _ _ ?_ ?_
  · blk_simp [idx t]; exact congrArg (· + _) (Nat.mul_comm _ _)
  · blk_simp [idx t]

/-- The bound array after the call. -/
theorem bound_arr (c : Dev nD) : (dat1 V c).arrAt 7 cfg1.N = fun i : S80x2560.Idx =>
    boundG (V c main_arg7) (V c main_v1_3) (V c main_v8) (V c main_v11) (i 0) (i 1) := by
  refine (dat1 V c).arrAt_eq_of_covers 7 _ (by decide +kernel) fun t _ y => ?_
  blk_simp
  rw [after1_7]
  refine bound_point V c t y _ _ ?_ ?_
  · blk_simp [idx t]; exact congrArg (· + _) (Nat.mul_comm _ _)
  · blk_simp [idx t]

/-- The inner-product array after the call. -/
theorem ip_arr (c : Dev nD) : (dat1 V c).arrAt 8 cfg1.N = fun i : S80x2560.Idx =>
    ipMG (V c main_arg7) (V c main_v1_3) (V c main_v1_4) (V c main_v5) (V c main_v11) (i 0) (i 1) := by
  refine (dat1 V c).arrAt_eq_of_covers 8 _ (by decide +kernel) fun t _ y => ?_
  blk_simp
  rw [after1_8]
  refine ip_point V c t y _ _ ?_ ?_
  · blk_simp [idx t]; exact congrArg (· + _) (Nat.mul_comm _ _)
  · blk_simp [idx t]

end Cert.KernelIdeal.Value
end
-- ==== Proof.Relay.lean ====
/-
The layout changes of the host: each array handed to a call, from the argument it is laid out from.
-/
module

public import proofs.«01_k».proof.Proof.Score

@[expose] public section

set_option maxRecDepth 16384

noncomputable section

namespace Cert.KernelIdeal.Value
open Idealize.ShloMosaic Idealize.ShloMosaic.TcCoe Idealize.SL.Sem Idealize.ShloMosaic.StableHlo
open Idealize.ShloMosaic.Pipeline (Dat)
open Cert.KernelIdeal Cert.KernelIdeal.Gen Cert.Rabitq

section vectors
variable {T : Type}

/-- The tiling of a factor array, read at the tile of row `b`, candidate `n`. -/
theorem tiled (x : S80x2560.Idx → T) (b : Fin 80) (n : Fin 2560) :
    shapeCast S1600x128 (transpose S10x20x8x128 [0, 2, 1, 3] (shapeCast S10x8x20x128 x shapeCasts_S80x2560_S10x8x20x128)
      transposes_S10x8x20x128_S10x20x8x128_0_2_1_3) shapeCasts_S10x20x8x128_S1600x128 (ix2 (rowOf b n) (laneOf n)) = x (ix2 b n) := by
  have hb := b.isLt
  have hn := n.isLt
  pointwise
  refine congrArg x (congrArg₂ ix2 (Fin.ext ?_) (Fin.ext ?_)) <;> simp [rowOf, laneOf] <;> omega

/-- The tiling of the data words, read at the tile of row `b`, candidate `n`. -/
theorem tiledW (x : S80x2560x8.Idx → T) (b : Fin 80) (n : Fin 2560) (w : Fin 8) :
    shapeCast S200x8x8x128 (transpose S10x20x8x8x128 [0, 2, 4, 1, 3] (shapeCast S10x8x20x128x8 x shapeCasts_S80x2560x8_S10x8x20x128x8)
      transposes_S10x8x20x128x8_S10x20x8x8x128_0_2_4_1_3) shapeCasts_S10x20x8x8x128_S200x8x8x128
      (ix4 (chunkOf b n) w (subOf b) (laneOf n)) = x (ix3 b n w) := by
  have hb := b.isLt
  have hn := n.isLt
  have hw := w.isLt
  pointwise
  refine congrArg x (congr (congrArg₂ ix3 (Fin.ext ?_) (Fin.ext ?_)) (Fin.ext ?_)) <;> simp [chunkOf, subOf, laneOf] <;> omega

/-- One row put in front. -/
theorem row0 (x : S256.Idx → T) (d : Fin 256) : shapeCast S1x256 x shapeCasts_S256_S1x256 (ix2 0 d) = x (ix1 d) := by
  pointwise
end vectors

section host
variable (W : Valuation τ sig (Elt Ideal))

/-- The centroid as a row. -/
theorem v0_eq : StableHlo.after hostOps0 W main_v0 = shapeCast S1x256 (W main_arg1) shapeCasts_S256_S1x256 := by
  after_results_simp
  rfl
/-- The norms in tiles. -/
theorem v8_eq : StableHlo.after hostOps1 W main_v8 = shapeCast S1600x128 (transpose S10x20x8x128 [0, 2, 1, 3]
    (shapeCast S10x8x20x128 (W main_arg5) shapeCasts_S80x2560_S10x8x20x128)
      transposes_S10x8x20x128_S10x20x8x128_0_2_1_3) shapeCasts_S10x20x8x128_S1600x128 := by
  after_results_simp
  rfl
/-- The `oo` factors in tiles. -/
theorem v11_eq : StableHlo.after hostOps1 W main_v11 = shapeCast S1600x128 (transpose S10x20x8x128 [0, 2, 1, 3]
    (shapeCast S10x8x20x128 (W main_arg6) shapeCasts_S80x2560_S10x8x20x128)
      transposes_S10x8x20x128_S10x20x8x128_0_2_1_3) shapeCasts_S10x20x8x128_S1600x128 := by
  after_results_simp
  rfl
/-- The data words in tiles. -/
theorem v5_eq : StableHlo.after hostOps1 W main_v5 = shapeCast S200x8x8x128 (transpose S10x20x8x8x128 [0, 2, 4, 1, 3]
    (shapeCast S10x8x20x128x8 (W main_arg4) shapeCasts_S80x2560x8_S10x8x20x128x8)
      transposes_S10x8x20x128x8_S10x20x8x8x128_0_2_4_1_3) shapeCasts_S10x20x8x8x128_S200x8x8x128 := by
  after_results_simp
  rfl
end host

end Cert.KernelIdeal.Value
end
-- ==== Proof.Run.lean ====
/-
The kernel's run with its results: every result array ends with what the last segment boundary's contents say of it, and every
argument array ends as it was launched. The launch is the one the whole program's frame uses.
-/
module

public import proofs.«01_k».proof.Proof.Gen.KernelIdeal.Frame

@[expose] public section

set_option maxRecDepth 16384

noncomputable section

namespace Cert.KernelIdeal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ) (ρ : Dev nD → PrngReg)

set_option backward.isDefEq.respectTransparency.types false in
/-- The program runs, its six results end at the last boundary's contents and its arguments end unchanged. -/
theorem run : θ_run defs (onTc (τ := τ) (main (F := F))) ⟨m, fun _ => 0, ρ⟩ (fun r => ∀ c : Dev nD,
      r.2.mem ((c.tc : Thread nD τ).loc main_v12_0) = W4 m ρ c main_v12_0
      ∧ r.2.mem ((c.tc : Thread nD τ).loc main_v12_1) = W4 m ρ c main_v12_1
      ∧ r.2.mem ((c.tc : Thread nD τ).loc main_v12_2) = W4 m ρ c main_v12_2
      ∧ r.2.mem ((c.tc : Thread nD τ).loc main_v1_0) = W4 m ρ c main_v1_0
      ∧ r.2.mem ((c.tc : Thread nD τ).loc main_v1_1) = W4 m ρ c main_v1_1
      ∧ r.2.mem ((c.tc : Thread nD τ).loc main_v1_2) = W4 m ρ c main_v1_2
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ c =>
      ⟨h c _ (mem_uc main_v12_0 (by decide)),
       h c _ (mem_uc main_v12_1 (by decide)),
       h c _ (mem_uc main_v12_2 (by decide)),
       h c _ (mem_uc main_v1_0 (by decide)),
       h c _ (mem_uc main_v1_1 (by decide)),
       h c _ (mem_uc main_v1_2 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.Value

end
-- ==== Proof.Glue.lean ====
/-
The kernel's six results as functions of its arguments: the two calls' arrays and the host's layout changes put together.
-/
module

public import proofs.«01_k».proof.Proof.PrepArr
public import proofs.«01_k».proof.Proof.ScoreArr
public import proofs.«01_k».proof.Proof.Relay
public import proofs.«01_k».proof.Proof.Run

@[expose] public section

set_option maxRecDepth 16384

noncomputable section

namespace Cert.KernelIdeal.Value
open Idealize.ShloMosaic Idealize.ShloMosaic.TcCoe Idealize.SL.Sem
open Idealize.ShloMosaic.Pipeline (Dat)
open Cert.KernelIdeal Cert.KernelIdeal.Gen Cert.Rabitq
variable (m : (ℓ : Loc nD τ sig) → Buf (Elt Ideal) ℓ) (ρ : Dev nD → PrngReg)

/-- The queries, by row and coordinate. -/
abbrev x0 (c : Dev nD) (b : Fin 80) (d : Fin 256) : EReal := m ((c : Thread nD τ).loc main_arg0) (ix2 b d)
/-- The centroid, by coordinate. -/
abbrev x1 (c : Dev nD) (d : Fin 256) : EReal := m ((c : Thread nD τ).loc main_arg1) (ix1 d)
/-- The rotation, by row and column. -/
abbrev x2 (c : Dev nD) (k d : Fin 256) : EReal := m ((c : Thread nD τ).loc main_arg2) (ix2 k d)
/-- The rounding offsets, by row and coordinate. -/
abbrev x3 (c : Dev nD) (b : Fin 80) (d : Fin 256) : EReal := m ((c : Thread nD τ).loc main_arg3) (ix2 b d)
/-- The data words, by query, candidate and word. -/
abbrev g (c : Dev nD) (b : Fin 80) (n : Fin 2560) (w : Fin 8) : BitVec 32 := m ((c : Thread nD τ).loc main_arg4) (ix3 b n w)
/-- The data norms, by query and candidate. -/
abbrev nrm (c : Dev nD) (b : Fin 80) (n : Fin 2560) : EReal := m ((c : Thread nD τ).loc main_arg5) (ix2 b n)
/-- The `oo` factors, by query and candidate. -/
abbrev oo (c : Dev nD) (b : Fin 80) (n : Fin 2560) : EReal := m ((c : Thread nD τ).loc main_arg6) (ix2 b n)
/-- The candidate counts, by query. -/
abbrev cnt (c : Dev nD) (b : Fin 80) : BitVec 32 := m ((c : Thread nD τ).loc main_arg7) (ix1 b)

/-! ## What the preparing call reads -/

/-- The queries at the preparing call. -/
theorem qX_eq (c : Dev nD) : qX (V1 m ρ) c = x0 m c := by
  funext b d; exact congrFun (W1_args m ρ c main_arg0 (by decide)) (ix2 b d)
/-- The centroid at the preparing call. -/
theorem qC_eq (c : Dev nD) : qC (V1 m ρ) c = x1 m c := by
  funext d; exact (congrFun (v0_eq (W0 m ρ c)) (ix2 0 d)).trans (row0 (W0 m ρ c main_arg1) d)
/-- The rotation at the preparing call. -/
theorem qR_eq (c : Dev nD) : qR (V1 m ρ) c = x2 m c := by
  funext k d; exact congrFun (W1_args m ρ c main_arg2 (by decide)) (ix2 k d)
/-- The offsets at the preparing call. -/
theorem qO_eq (c : Dev nD) : qO (V1 m ρ) c = x3 m c := by
  funext b d; exact congrFun (W1_args m ρ c main_arg3 (by decide)) (ix2 b d)

/-! ## The preparing call's results at the end of the run -/

/-- The codes at the end. -/
theorem k_codes (c : Dev nD) : W4 m ρ c main_v1_0 =
    fun i : S80x256.Idx => codeRes (x0 m c) (x1 m c) (x2 m c) (x3 m c) (i 0) (i 1) := by
  refine (W4_of m ρ c main_v1_0 (by decide)).trans ((W3_of m ρ c main_v1_0 (by decide)).trans ((W2_arr m ρ c 4).trans
    ((codes_arr (V1 m ρ) c).trans ?_)))
  rw [qX_eq, qC_eq, qR_eq, qO_eq]
/-- The steps at the end. -/
theorem k_delta (c : Dev nD) : W4 m ρ c main_v1_1 =
    fun i : S80.Idx => deltaS (x0 m c (i 0)) (x1 m c) (x2 m c) := by
  refine (W4_of m ρ c main_v1_1 (by decide)).trans ((W3_of m ρ c main_v1_1 (by decide)).trans ((W2_arr m ρ c 5).trans
    ((delta_arr (V1 m ρ) c).trans ?_)))
  rw [qX_eq, qC_eq, qR_eq]
/-- The least coordinates at the end. -/
theorem k_vl (c : Dev nD) : W4 m ρ c main_v1_2 =
    fun i : S80.Idx => vlS (x0 m c (i 0)) (x1 m c) (x2 m c) := by
  refine (W4_of m ρ c main_v1_2 (by decide)).trans ((W3_of m ρ c main_v1_2 (by decide)).trans ((W2_arr m ρ c 6).trans
    ((vl_arr (V1 m ρ) c).trans ?_)))
  rw [qX_eq, qC_eq, qR_eq]

/-! ## What the scoring call reads -/

/-- The query factors at the scoring call. -/
theorem par_eq (c : Dev nD) : V3 m ρ c main_v1_3 = fun i : S80x128.Idx =>
    parS (x0 m c (i 0)) (x1 m c) (x2 m c) (x3 m c (i 0)) (BitVec.ofNat 32 (i 1)) := by
  refine (W3_of m ρ c main_v1_3 (by decide)).trans ((W2_arr m ρ c 7).trans ((par_arr (V1 m ρ) c).trans ?_))
  rw [qX_eq, qC_eq, qR_eq, qO_eq]
/-- The bit planes at the scoring call. -/
theorem planes_eq (c : Dev nD) : V3 m ρ c main_v1_4 = fun i : S4x80x8.Idx =>
    planeS (codeW (x0 m c (i 1)) (x1 m c) (x2 m c) (x3 m c (i 1))) (BitVec.ofNat 32 (i 0)) (i 2) := by
  refine (W3_of m ρ c main_v1_4 (by decide)).trans ((W2_arr m ρ c 8).trans ((planes_arr (V1 m ρ) c).trans ?_))
  rw [qX_eq, qC_eq, qR_eq, qO_eq]

section row
variable (c : Dev nD) (b : Fin 80) (n : Fin 2560)
/-- The factor of the dot product. -/
theorem par0 : @Eq EReal (V3 m ρ c main_v1_3 (ix2 b 0))
    (Ideal.div (Ideal.ofBits .f32 1073741824#32 * deltaS (x0 m c b) (x1 m c) (x2 m c)) (Ideal.ofBits .f32 1098907648#32)) :=
  (congrFun (par_eq m ρ c) (ix2 b 0)).trans rfl
/-- The factor of the population count. -/
theorem par1 : @Eq EReal (V3 m ρ c main_v1_3 (ix2 b 1))
    (Ideal.div (Ideal.ofBits .f32 1073741824#32 * vlS (x0 m c b) (x1 m c) (x2 m c)) (Ideal.ofBits .f32 1098907648#32)) :=
  (congrFun (par_eq m ρ c) (ix2 b 1)).trans rfl
/-- The term of the sum of the codes. -/
theorem par2 : @Eq EReal (V3 m ρ c main_v1_3 (ix2 b 2))
    (Ideal.div (deltaS (x0 m c b) (x1 m c) (x2 m c)) (Ideal.ofBits .f32 1098907648#32)
      * ∑ x, qfS (x0 m c b) (x1 m c) (x2 m c) (x3 m c b) x) :=
  (congrFun (par_eq m ρ c) (ix2 b 2)).trans rfl
/-- The term of the least coordinate. -/
theorem par3 : @Eq EReal (V3 m ρ c main_v1_3 (ix2 b 3))
    (Ideal.ofBits .f32 1098907648#32 * vlS (x0 m c b) (x1 m c) (x2 m c)) :=
  (congrFun (par_eq m ρ c) (ix2 b 3)).trans rfl
/-- The query's norm. -/
theorem par4 : @Eq EReal (V3 m ρ c main_v1_3 (ix2 b 4)) (nqS (x0 m c b) (x1 m c)) :=
  (congrFun (par_eq m ρ c) (ix2 b 4)).trans rfl
/-- A word of a bit plane. -/
theorem plane_at (j : Fin 4) (w : Fin 8) : @Eq (BitVec 32) (V3 m ρ c main_v1_4 (ix3 j b w))
    (planeS (codeW (x0 m c b) (x1 m c) (x2 m c) (x3 m c b)) (BitVec.ofNat 32 j) w) :=
  congrFun (planes_eq m ρ c) (ix3 j b w)
/-- A data word. -/
theorem word_at (w : Fin 8) :
    @Eq (BitVec 32) (V3 m ρ c main_v5 (ix4 (chunkOf b n) w (subOf b) (laneOf n))) (g m c b n w) :=
  ((congrFun (v5_eq (W2 m ρ c)) _).trans (tiledW (W2 m ρ c main_arg4) b n w)).trans
    (congrFun (W2_args m ρ c main_arg4 (by decide)) (ix3 b n w))
/-- A data norm. -/
theorem norm_at : @Eq EReal (V3 m ρ c main_v8 (ix2 (rowOf b n) (laneOf n))) (nrm m c b n) :=
  ((congrFun (v8_eq (W2 m ρ c)) _).trans (tiled (W2 m ρ c main_arg5) b n)).trans
    (congrFun (W2_args m ρ c main_arg5 (by decide)) (ix2 b n))
/-- An `oo` factor. -/
theorem oo_at : @Eq EReal (V3 m ρ c main_v11 (ix2 (rowOf b n) (laneOf n))) (oo m c b n) :=
  ((congrFun (v11_eq (W2 m ρ c)) _).trans (tiled (W2 m ρ c main_arg6) b n)).trans
    (congrFun (W2_args m ρ c main_arg6 (by decide)) (ix2 b n))
/-- A candidate count. -/
theorem cnt_at : @Eq (BitVec 32) (V3 m ρ c main_arg7 (ix1 b)) (cnt m c b) :=
  congrFun (W3_args m ρ c main_arg7 (by decide)) (ix1 b)

/-- The inner product the scoring call estimates is the sum over the coordinates. -/
theorem ipG_eq : ipG (V3 m ρ c main_v1_3) (V3 m ρ c main_v1_4) (V3 m ρ c main_v5) (V3 m ρ c main_v11) b n =
    ipOut (x0 m c) (x1 m c) (x2 m c) (x3 m c) (g m c) (oo m c) b n := by
  obtain ⟨N, hN, hf, hw⟩ := exists_codes (x0 m c b) (x1 m c) (x2 m c) (x3 m c b)
  unfold ipG ipOut
  rw [par0 m ρ c b, par1 m ρ c b, par2 m ρ c b, par3 m ρ c b, oo_at m ρ c b n]
  rw [show (fun w => V3 m ρ c main_v5 (ix4 (chunkOf b n) w (subOf b) (laneOf n))) = g m c b n from funext fun w => word_at m ρ c b n w,
    show (fun (j : Fin 4) (w : Fin 8) => V3 m ρ c main_v1_4 (ix3 j b w)) =
      fun (j : Fin 4) (w : Fin 8) => planeS (codeW (x0 m c b) (x1 m c) (x2 m c) (x3 m c b)) (BitVec.ofNat 32 j) w from
      funext fun j => funext fun w => plane_at m ρ c b j w]
  exact ip_eq N hN _ hw _ hf _ _ _ _
end row

/-! ## The scoring call's results at the end of the run -/

/-- The distances at the end. -/
theorem k_dist (c : Dev nD) : W4 m ρ c main_v12_0 = fun i : S80x2560.Idx =>
    distRes (x0 m c) (x1 m c) (x2 m c) (x3 m c) (g m c) (nrm m c) (oo m c) (cnt m c) (i 0) (i 1) := by
  refine (W4_arr m ρ c 6).trans ((dist_arr (V3 m ρ) c).trans (funext fun i => ?_))
  unfold distG distRes
  rw [ipG_eq m ρ c (i 0) (i 1), cnt_at m ρ c (i 0), norm_at m ρ c (i 0) (i 1), par4 m ρ c (i 0)]
/-- The bounds at the end. -/
theorem k_bound (c : Dev nD) : W4 m ρ c main_v12_1 = fun i : S80x2560.Idx =>
    boundRes (x0 m c) (x1 m c) (nrm m c) (oo m c) (cnt m c) (i 0) (i 1) := by
  refine (W4_arr m ρ c 7).trans ((bound_arr (V3 m ρ) c).trans (funext fun i => ?_))
  unfold boundG boundRes
  rw [cnt_at m ρ c (i 0), norm_at m ρ c (i 0) (i 1), oo_at m ρ c (i 0) (i 1), par4 m ρ c (i 0)]
/-- The inner products at the end. -/
theorem k_ip (c : Dev nD) : W4 m ρ c main_v12_2 = fun i : S80x2560.Idx =>
    ipRes (x0 m c) (x1 m c) (x2 m c) (x3 m c) (g m c) (oo m c) (cnt m c) (i 0) (i 1) := by
  refine (W4_arr m ρ c 8).trans ((ip_arr (V3 m ρ) c).trans (funext fun i => ?_))
  unfold ipMG ipRes
  rw [ipG_eq m ρ c (i 0) (i 1), cnt_at m ρ c (i 0)]

end Cert.KernelIdeal.Value
end
-- ==== Proof.RefStage.lean ====
/-
The reference's results in stages: each stage a vector expression of the ones before it, with its entries.
-/
module

public import proofs.«01_k».proof.Proof.Gen.ReferenceIdeal.Run
public import Idealize.ShloMosaic.Lib.Pipeline.ValueKit
public import proofs.«01_k».proof.Proof.Spec

@[expose] public section

set_option maxRecDepth 16384

noncomputable section

namespace Cert.ReferenceIdeal.Spec
open Idealize.ShloMosaic Idealize.ShloMosaic.TcCoe Idealize.SL.Sem
open Cert.ReferenceIdeal Cert.ReferenceIdeal.Gen Cert.Rabitq

/-- The stage: the norms of the centred queries. -/
def nqV (X0 : FVec Ideal S80x256 .f32) (X1 : FVec Ideal S256 .f32) : FVec Ideal S80 .f32 :=
  (Host.sqrt (Host.reduceAdd (mulf (subf X0 (broadcastInDim S80x256 ![0, 1] bcast_S1x256_S80x256_0_1 (broadcastInDim S1x256 ![1] bcast_S256_S1x256_1 X1))) (subf X0 (broadcastInDim S80x256 ![0, 1] bcast_S1x256_S80x256_0_1 (broadcastInDim S1x256 ![1] bcast_S256_S1x256_1 X1)))) (constant S_ .f32 0x00000000#32) reducesTo_S80x256_S80_d1 h_S_))
/-- One entry of the norms of the centred queries. -/
theorem nqV_at (X0 : FVec Ideal S80x256 .f32) (X1 : FVec Ideal S256 .f32) (b : Fin 80) :
    @Eq (EReal) (nqV X0 X1 (ix1 b)) (Ideal.sqrt (∑ d, (X0 (ix2 b d) - X1 (ix1 d)) * (X0 (ix2 b d) - X1 (ix1 d)))) := by
  unfold nqV
  try simp only [id_eq]
  pointwise

/-- The stage: the rotated unit queries. -/
def rotV (X0 : FVec Ideal S80x256 .f32) (X1 : FVec Ideal S256 .f32) (X2 : FVec Ideal S256x256 .f32) (NQ : FVec Ideal S80 .f32) : FVec Ideal S80x256 .f32 :=
  (Host.dotGeneral dot_S80x256_S256x256_S80x256_1_0_0_1_n_n (some .fp32) (Host.divf (subf X0 (broadcastInDim S80x256 ![0, 1] bcast_S1x256_S80x256_0_1 (broadcastInDim S1x256 ![1] bcast_S256_S1x256_1 X1))) (broadcastInDim S80x256 ![0, 1] bcast_S80x1_S80x256_0_1 (broadcastInDim S80x1 ![0] bcast_S80_S80x1_0 NQ))) X2)
/-- One entry of the rotated unit queries. -/
theorem rotV_at (X0 : FVec Ideal S80x256 .f32) (X1 : FVec Ideal S256 .f32) (X2 : FVec Ideal S256x256 .f32) (NQ : FVec Ideal S80 .f32) (b : Fin 80) (d : Fin 256) :
    @Eq (EReal) (rotV X0 X1 X2 NQ (ix2 b d)) (∑ k, Ideal.div (X0 (ix2 b k) - X1 (ix1 k)) (NQ (ix1 b)) * X2 (ix2 k d)) := by
  unfold rotV
  try simp only [id_eq]
  pointwise

/-- The stage: the least coordinates. -/
def vlV (R : FVec Ideal S80x256 .f32) : FVec Ideal S80 .f32 :=
  Host.reduce FloatOps.minimumf R (constant S_ .f32 0x7F800000#32) reducesTo_S80x256_S80_d1 h_S_
/-- One entry of the least coordinates. -/
theorem vlV_at (R : FVec Ideal S80x256 .f32) (b : Fin 80) :
    @Eq (EReal) (vlV R (ix1 b)) (Finset.fold min (Ideal.ofBits .f32 2139095040#32) (fun d => R (ix2 b d)) Finset.univ) := by
  unfold vlV
  try simp only [id_eq]
  pointwise

/-- The stage: the quantiser's steps. -/
def dlV (R : FVec Ideal S80x256 .f32) (VL : FVec Ideal S80 .f32) : FVec Ideal S80 .f32 :=
  Host.divf (subf (Host.reduce FloatOps.maximumf R (constant S_ .f32 0xFF800000#32) reducesTo_S80x256_S80_d1 h_S_) VL) (broadcastInDim S80 ![] bcast_S_S80 (constant S_ .f32 0x41700000#32))
/-- One entry of the quantiser's steps. -/
theorem dlV_at (R : FVec Ideal S80x256 .f32) (VL : FVec Ideal S80 .f32) (b : Fin 80) :
    @Eq (EReal) (dlV R VL (ix1 b)) (Ideal.div (Finset.fold max (Ideal.ofBits .f32 4286578688#32) (fun d => R (ix2 b d)) Finset.univ - VL (ix1 b)) (Ideal.ofBits .f32 1097859072#32)) := by
  unfold dlV
  try simp only [id_eq]
  pointwise

/-- The stage: the codes as 32-bit words. -/
def wordV (R : FVec Ideal S80x256 .f32) (VL : FVec Ideal S80 .f32) (DL : FVec Ideal S80 .f32) (X3 : FVec Ideal S80x256 .f32) : IVec S80x256 32 :=
  (fptosi 32 (minimumf (broadcastInDim S80x256 ![] bcast_S_S80x256 (id (constant S_ .f32 0x41700000#32))) (maximumf (broadcastInDim S80x256 ![] bcast_S_S80x256 (id (constant S_ .f32 0x00000000#32))) (Host.floor (addf (Host.divf (subf R (broadcastInDim S80x256 ![0, 1] bcast_S80x1_S80x256_0_1 (broadcastInDim S80x1 ![0] bcast_S80_S80x1_0 VL))) (broadcastInDim S80x256 ![0, 1] bcast_S80x1_S80x256_0_1 (broadcastInDim S80x1 ![0] bcast_S80_S80x1_0 DL))) X3)))))
/-- One entry of the codes as 32-bit words. -/
theorem wordV_at (R : FVec Ideal S80x256 .f32) (VL : FVec Ideal S80 .f32) (DL : FVec Ideal S80 .f32) (X3 : FVec Ideal S80x256 .f32) (b : Fin 80) (d : Fin 256) :
    @Eq (BitVec 32) (wordV R VL DL X3 (ix2 b d)) (FloatOps.fptosi (F := Ideal) 32 (φ := .f32) (min (Ideal.ofBits .f32 1097859072#32) (max 0 (Ideal.liftRound Int.floor (Ideal.div (R (ix2 b d) - VL (ix1 b)) (DL (ix1 b)) + X3 (ix2 b d)))))) := by
  unfold wordV
  try simp only [id_eq]
  pointwise

/-- The stage: the eight-bit codes. -/
def codeM (Q : IVec S80x256 32) : IVec S80x256 8 :=
  trunci 8 Q natLt_8_32
/-- One entry of the eight-bit codes. -/
theorem codeM_at (Q : IVec S80x256 32) (b : Fin 80) (d : Fin 256) :
    @Eq (BitVec 8) (codeM Q (ix2 b d)) (BitVec.setWidth 8 (Q (ix2 b d))) := by
  unfold codeM
  try simp only [id_eq]
  pointwise

/-- The stage: the dot products of data bits and codes. -/
def dotV (Q : IVec S80x256 32) (X4 : IVec S80x2560x8 32) : FVec Ideal S80x2560 .f32 :=
  (Host.dotGeneral dot_S80x2560x256_S80x256_S80x2560_2_1_1_n_0_0 none (uitofp .bf16 (shapeCast _ (andi (Host.shrui (broadcastInDim S80x2560x8x32 ![0, 1, 2, 3] bcast_S80x2560x8x1_S80x2560x8x32_0_1_2_3 (broadcastInDim S80x2560x8x1 ![0, 1, 2] bcast_S80x2560x8_S80x2560x8x1_0_1_2 X4)) (broadcastInDim S80x2560x8x32 ![0, 1, 2, 3] bcast_S1x1x1x32_S80x2560x8x32_0_1_2_3 (broadcastInDim S1x1x1x32 ![3] bcast_S32_S1x1x1x32_3 (iotaInDim S32 32 0)))) (broadcastInDim S80x2560x8x32 ![] bcast_S_S80x2560x8x32 (constantI S_ 32 1#32))) shapeCasts_S80x2560x8x32_S80x2560x256)) (truncf .bf16 (sitofp .f32 (extui 32 (trunci 8 Q natLt_8_32) natLt_8_32)) bitsLt_bf16_f32))
/-- One entry of the dot products of data bits and codes. -/
theorem dotV_at (Q : IVec S80x256 32) (X4 : IVec S80x2560x8 32) (b : Fin 80) (n : Fin 2560) :
    @Eq (EReal) (dotV Q X4 (ix2 b n)) (bitSum (fun w => X4 (ix3 b n w)) (fun d => Q (ix2 b d))) := by
  unfold dotV bitSum
  try simp only [id_eq]
  pointwise

/-- The stage: the population counts. -/
def popV (X4 : IVec S80x2560x8 32) : FVec Ideal S80x2560 .f32 :=
  (sitofp .f32 (Host.reduce IntOp.addi (id (ctpop X4)) (constantI S_ 32 0#32) reducesTo_S80x2560x8_S80x2560_d2 h_S_))
/-- One entry of the population counts. -/
theorem popV_at (X4 : IVec S80x2560x8 32) (b : Fin 80) (n : Fin 2560) :
    @Eq (EReal) (popV X4 (ix2 b n)) (popSum (fun w => X4 (ix3 b n w))) := by
  unfold popV popSum
  try simp only [id_eq]
  pointwise

/-- The stage: the sums of the codes. -/
def csV (Q : IVec S80x256 32) : FVec Ideal S80 .f32 :=
  (sitofp .f32 (Host.reduce IntOp.addi (extui 32 (trunci 8 Q natLt_8_32) natLt_8_32) (constantI S_ 32 0#32) reducesTo_S80x256_S80_d1 h_S_))
/-- One entry of the sums of the codes. -/
theorem csV_at (Q : IVec S80x256 32) (b : Fin 80) :
    @Eq (EReal) (csV Q (ix1 b)) (codeSum (fun d => Q (ix2 b d))) := by
  unfold csV codeSum
  try simp only [id_eq]
  pointwise

/-- The stage: the estimated inner products, before masking. -/
def ipV (DL : FVec Ideal S80 .f32) (VL : FVec Ideal S80 .f32) (X6 : FVec Ideal S80x2560 .f32) (DOT : FVec Ideal S80x2560 .f32) (POP : FVec Ideal S80x2560 .f32) (CS : FVec Ideal S80 .f32) : FVec Ideal S80x2560 .f32 :=
  (Host.divf (subf (subf (addf (mulf (broadcastInDim S80x2560 ![0, 1] bcast_S80x1_S80x2560_0_1 (broadcastInDim S80x1 ![0] bcast_S80_S80x1_0 (Host.divf (mulf (broadcastInDim S80 ![] bcast_S_S80 (constant S_ .f32 0x40000000#32)) DL) (broadcastInDim S80 ![] bcast_S_S80 (constant S_ .f32 0x41800000#32))))) DOT) (mulf (broadcastInDim S80x2560 ![0, 1] bcast_S80x1_S80x2560_0_1 (broadcastInDim S80x1 ![0] bcast_S80_S80x1_0 (Host.divf (mulf (broadcastInDim S80 ![] bcast_S_S80 (constant S_ .f32 0x40000000#32)) VL) (broadcastInDim S80 ![] bcast_S_S80 (constant S_ .f32 0x41800000#32))))) POP)) (broadcastInDim S80x2560 ![0, 1] bcast_S80x1_S80x2560_0_1 (broadcastInDim S80x1 ![0] bcast_S80_S80x1_0 (mulf (Host.divf DL (broadcastInDim S80 ![] bcast_S_S80 (constant S_ .f32 0x41800000#32))) CS)))) (broadcastInDim S80x2560 ![0, 1] bcast_S80x1_S80x2560_0_1 (broadcastInDim S80x1 ![0] bcast_S80_S80x1_0 (mulf (broadcastInDim S80 ![] bcast_S_S80 (constant S_ .f32 0x41800000#32)) VL)))) X6)
/-- One entry of the estimated inner products, before masking. -/
theorem ipV_at (DL : FVec Ideal S80 .f32) (VL : FVec Ideal S80 .f32) (X6 : FVec Ideal S80x2560 .f32) (DOT : FVec Ideal S80x2560 .f32) (POP : FVec Ideal S80x2560 .f32) (CS : FVec Ideal S80 .f32) (b : Fin 80) (n : Fin 2560) :
    @Eq (EReal) (ipV DL VL X6 DOT POP CS (ix2 b n)) (Ideal.div (Ideal.div (Ideal.ofBits .f32 1073741824#32 * DL (ix1 b)) (Ideal.ofBits .f32 1098907648#32) * DOT (ix2 b n)
    + Ideal.div (Ideal.ofBits .f32 1073741824#32 * VL (ix1 b)) (Ideal.ofBits .f32 1098907648#32) * POP (ix2 b n)
    - Ideal.div (DL (ix1 b)) (Ideal.ofBits .f32 1098907648#32) * CS (ix1 b) - Ideal.ofBits .f32 1098907648#32 * VL (ix1 b)) (X6 (ix2 b n))) := by
  unfold ipV
  try simp only [id_eq]
  pointwise

/-- The stage: the masked inner products. -/
def ipM (X7 : IVec S80 32) (IP : FVec Ideal S80x2560 .f32) : FVec Ideal S80x2560 .f32 :=
  select (cmpi .slt (broadcastInDim S80x2560 ![0, 1] bcast_S1x2560_S80x2560_0_1 (broadcastInDim S1x2560 ![1] bcast_S2560_S1x2560_1 (iotaInDim S2560 32 0))) (broadcastInDim S80x2560 ![0, 1] bcast_S80x1_S80x2560_0_1 (broadcastInDim S80x1 ![0] bcast_S80_S80x1_0 X7))) IP (broadcastInDim S80x2560 ![] bcast_S_S80x2560 (id (constant S_ .f32 0x00000000#32)))
/-- One entry of the masked inner products. -/
theorem ipM_at (X7 : IVec S80 32) (IP : FVec Ideal S80x2560 .f32) (b : Fin 80) (n : Fin 2560) :
    @Eq (EReal) (ipM X7 IP (ix2 b n)) (keepS (BitVec.ofNat 32 n) (X7 (ix1 b)) (IP (ix2 b n))) := by
  unfold ipM keepS
  try simp only [id_eq]
  pointwise

/-- The stage: the masked distances. -/
def distM (X5 : FVec Ideal S80x2560 .f32) (X7 : IVec S80 32) (NQ : FVec Ideal S80 .f32) (IP : FVec Ideal S80x2560 .f32) : FVec Ideal S80x2560 .f32 :=
  select (cmpi .slt (broadcastInDim S80x2560 ![0, 1] bcast_S1x2560_S80x2560_0_1 (broadcastInDim S1x2560 ![1] bcast_S2560_S1x2560_1 (iotaInDim S2560 32 0))) (broadcastInDim S80x2560 ![0, 1] bcast_S80x1_S80x2560_0_1 (broadcastInDim S80x1 ![0] bcast_S80_S80x1_0 X7))) (subf (addf (mulf X5 X5) (broadcastInDim S80x2560 ![0, 1] bcast_S80x1_S80x2560_0_1 (mulf (broadcastInDim S80x1 ![0] bcast_S80_S80x1_0 NQ) (broadcastInDim S80x1 ![0] bcast_S80_S80x1_0 NQ)))) (mulf (mulf (mulf (broadcastInDim S80x2560 ![] bcast_S_S80x2560 (constant S_ .f32 0x40000000#32)) X5) (broadcastInDim S80x2560 ![0, 1] bcast_S80x1_S80x2560_0_1 (broadcastInDim S80x1 ![0] bcast_S80_S80x1_0 NQ))) IP)) (broadcastInDim S80x2560 ![] bcast_S_S80x2560 (id (constant S_ .f32 0x00000000#32)))
/-- One entry of the masked distances. -/
theorem distM_at (X5 : FVec Ideal S80x2560 .f32) (X7 : IVec S80 32) (NQ : FVec Ideal S80 .f32) (IP : FVec Ideal S80x2560 .f32) (b : Fin 80) (n : Fin 2560) :
    @Eq (EReal) (distM X5 X7 NQ IP (ix2 b n)) (keepS (BitVec.ofNat 32 n) (X7 (ix1 b)) (distS (X5 (ix2 b n)) (NQ (ix1 b)) (IP (ix2 b n)))) := by
  unfold distM keepS distS
  try simp only [id_eq]
  pointwise

/-- The stage: the masked bounds. -/
def boundM (X5 : FVec Ideal S80x2560 .f32) (X6 : FVec Ideal S80x2560 .f32) (X7 : IVec S80 32) (NQ : FVec Ideal S80 .f32) : FVec Ideal S80x2560 .f32 :=
  select (cmpi .slt (broadcastInDim S80x2560 ![0, 1] bcast_S1x2560_S80x2560_0_1 (broadcastInDim S1x2560 ![1] bcast_S2560_S1x2560_1 (iotaInDim S2560 32 0))) (broadcastInDim S80x2560 ![0, 1] bcast_S80x1_S80x2560_0_1 (broadcastInDim S80x1 ![0] bcast_S80_S80x1_0 X7))) (Host.divf (mulf (Host.divf (mulf (mulf (mulf (broadcastInDim S80x2560 ![] bcast_S_S80x2560 (constant S_ .f32 0x40000000#32)) X5) (broadcastInDim S80x2560 ![0, 1] bcast_S80x1_S80x2560_0_1 (broadcastInDim S80x1 ![0] bcast_S80_S80x1_0 NQ))) (Host.sqrt (subf (broadcastInDim S80x2560 ![] bcast_S_S80x2560 (constant S_ .f32 0x3F800000#32)) (mulf X6 X6)))) X6) (broadcastInDim S80x2560 ![] bcast_S_S80x2560 (constant S_ .f32 0x3FF33333#32))) (broadcastInDim S80x2560 ![] bcast_S_S80x2560 (constant S_ .f32 0x417F7FE0#32))) (broadcastInDim S80x2560 ![] bcast_S_S80x2560 (id (constant S_ .f32 0x00000000#32)))
/-- One entry of the masked bounds. -/
theorem boundM_at (X5 : FVec Ideal S80x2560 .f32) (X6 : FVec Ideal S80x2560 .f32) (X7 : IVec S80 32) (NQ : FVec Ideal S80 .f32) (b : Fin 80) (n : Fin 2560) :
    @Eq (EReal) (boundM X5 X6 X7 NQ (ix2 b n)) (keepS (BitVec.ofNat 32 n) (X7 (ix1 b)) (boundS (X5 (ix2 b n)) (NQ (ix1 b)) (X6 (ix2 b n)))) := by
  unfold boundM keepS boundS
  try simp only [id_eq]
  pointwise

end Cert.ReferenceIdeal.Spec
end
-- ==== Proof.RefSpec.lean ====
/-
The reference's six results, entry by entry, from its run.
-/
module

public import proofs.«01_k».proof.Proof.RefStage

@[expose] public section

set_option maxRecDepth 16384

noncomputable section

namespace Cert.ReferenceIdeal.Spec
open Idealize.ShloMosaic Idealize.ShloMosaic.TcCoe Idealize.SL.Sem

open Cert.ReferenceIdeal Cert.ReferenceIdeal.Gen Cert.Rabitq
variable (m : (ℓ : Loc nD τ sig) → Buf (Elt Ideal) ℓ) (ρ : Dev nD → PrngReg)

/-- The queries, by row and coordinate. -/
abbrev x0 (c : Dev nD) (b : Fin 80) (d : Fin 256) : EReal := m ((c : Thread nD τ).loc main_arg0) (ix2 b d)
/-- The centroid, by coordinate. -/
abbrev x1 (c : Dev nD) (d : Fin 256) : EReal := m ((c : Thread nD τ).loc main_arg1) (ix1 d)
/-- The rotation, by row and column. -/
abbrev x2 (c : Dev nD) (k d : Fin 256) : EReal := m ((c : Thread nD τ).loc main_arg2) (ix2 k d)
/-- The rounding offsets, by row and coordinate. -/
abbrev x3 (c : Dev nD) (b : Fin 80) (d : Fin 256) : EReal := m ((c : Thread nD τ).loc main_arg3) (ix2 b d)
/-- The data words, by query, candidate and word. -/
abbrev g (c : Dev nD) (b : Fin 80) (n : Fin 2560) (w : Fin 8) : BitVec 32 := m ((c : Thread nD τ).loc main_arg4) (ix3 b n w)
/-- The data norms, by query and candidate. -/
abbrev nrm (c : Dev nD) (b : Fin 80) (n : Fin 2560) : EReal := m ((c : Thread nD τ).loc main_arg5) (ix2 b n)
/-- The `oo` factors, by query and candidate. -/
abbrev oo (c : Dev nD) (b : Fin 80) (n : Fin 2560) : EReal := m ((c : Thread nD τ).loc main_arg6) (ix2 b n)
/-- The candidate counts, by query. -/
abbrev cnt (c : Dev nD) (b : Fin 80) : BitVec 32 := m ((c : Thread nD τ).loc main_arg7) (ix1 b)

/-- The norms of the centred queries. -/
def NQ (c : Dev nD) : FVec Ideal S80 .f32 := nqV (m ((c : Thread nD τ).loc main_arg0)) (m ((c : Thread nD τ).loc main_arg1))
/-- The rotated unit queries. -/
def ROT (c : Dev nD) : FVec Ideal S80x256 .f32 := rotV (m ((c : Thread nD τ).loc main_arg0)) (m ((c : Thread nD τ).loc main_arg1)) (m ((c : Thread nD τ).loc main_arg2)) (NQ m c)
/-- The least coordinates. -/
def VL (c : Dev nD) : FVec Ideal S80 .f32 := vlV (ROT m c)
/-- The steps. -/
def DL (c : Dev nD) : FVec Ideal S80 .f32 := dlV (ROT m c) (VL m c)
/-- The codes as 32-bit words. -/
def WD (c : Dev nD) : IVec S80x256 32 := wordV (ROT m c) (VL m c) (DL m c) (m ((c : Thread nD τ).loc main_arg3))
/-- The estimated inner products before masking. -/
def IP (c : Dev nD) : FVec Ideal S80x2560 .f32 :=
  ipV (DL m c) (VL m c) (m ((c : Thread nD τ).loc main_arg6)) (dotV (WD m c) (m ((c : Thread nD τ).loc main_arg4))) (popV (m ((c : Thread nD τ).loc main_arg4))) (csV (WD m c))

/-- A query's norm. -/
theorem NQ_at (c : Dev nD) (b : Fin 80) : @Eq EReal (NQ m c (ix1 b)) (nqS (x0 m c b) (x1 m c)) := nqV_at _ _ b
/-- A rotated coordinate. -/
theorem ROT_at (c : Dev nD) (b : Fin 80) (d : Fin 256) :
    @Eq EReal (ROT m c (ix2 b d)) (rotS (x0 m c b) (x1 m c) (x2 m c) d) := by
  refine (rotV_at _ _ _ _ b d).trans ?_
  unfold rotS
  refine Finset.sum_congr rfl fun k _ => ?_
  exact congrArg (fun q : EReal => Ideal.div (x0 m c b k - x1 m c k) q * x2 m c k d) (NQ_at m c b)
/-- The rotated coordinates of a query. -/
theorem ROT_row (c : Dev nD) (b : Fin 80) :
    @Eq (Fin 256 → EReal) (fun d => ROT m c (ix2 b d)) (fun d => rotS (x0 m c b) (x1 m c) (x2 m c) d) :=
  funext fun d => ROT_at m c b d
/-- A least coordinate. -/
theorem VL_at (c : Dev nD) (b : Fin 80) : @Eq EReal (VL m c (ix1 b)) (vlS (x0 m c b) (x1 m c) (x2 m c)) :=
  (vlV_at _ b).trans (congrArg (fun f : Fin 256 → EReal => Finset.fold min (Ideal.ofBits .f32 2139095040#32) f Finset.univ) (ROT_row m c b))
/-- A step. -/
theorem DL_at (c : Dev nD) (b : Fin 80) : @Eq EReal (DL m c (ix1 b)) (deltaS (x0 m c b) (x1 m c) (x2 m c)) :=
  (dlV_at _ _ b).trans (congrArg₂ (fun (f : Fin 256 → EReal) (v : EReal) =>
    Ideal.div (Finset.fold max (Ideal.ofBits .f32 4286578688#32) f Finset.univ - v) (Ideal.ofBits .f32 1097859072#32))
    (ROT_row m c b) (VL_at m c b))
/-- A code as a 32-bit word. -/
theorem WD_at (c : Dev nD) (b : Fin 80) (d : Fin 256) :
    @Eq (BitVec 32) (WD m c (ix2 b d)) (codeW (x0 m c b) (x1 m c) (x2 m c) (x3 m c b) d) := by
  refine (wordV_at _ _ _ _ b d).trans ?_
  unfold codeW qfS
  rw [show @Eq EReal (ROT m c (ix2 b d)) _ from ROT_at m c b d, show @Eq EReal (VL m c (ix1 b)) _ from VL_at m c b,
    show @Eq EReal (DL m c (ix1 b)) _ from DL_at m c b]
/-- The codes of a query. -/
theorem WD_row (c : Dev nD) (b : Fin 80) :
    @Eq (Fin 256 → BitVec 32) (fun d => WD m c (ix2 b d)) (codeW (x0 m c b) (x1 m c) (x2 m c) (x3 m c b)) :=
  funext fun d => WD_at m c b d
/-- An estimated inner product before masking. -/
theorem IP_at (c : Dev nD) (b : Fin 80) (n : Fin 2560) :
    @Eq EReal (IP m c (ix2 b n)) (ipOut (x0 m c) (x1 m c) (x2 m c) (x3 m c) (g m c) (oo m c) b n) := by
  refine (ipV_at _ _ _ _ _ _ b n).trans ?_
  have hd : @Eq EReal (dotV (WD m c) (m ((c : Thread nD τ).loc main_arg4)) (ix2 b n)) (bitSum (g m c b n) (codeW (x0 m c b) (x1 m c) (x2 m c) (x3 m c b))) :=
    (dotV_at _ _ b n).trans (congrArg (fun q : Fin 256 → BitVec 32 => bitSum (g m c b n) q) (WD_row m c b))
  have hs : @Eq EReal (csV (WD m c) (ix1 b)) (codeSum (codeW (x0 m c b) (x1 m c) (x2 m c) (x3 m c b))) :=
    (csV_at _ b).trans (congrArg (fun q : Fin 256 → BitVec 32 => codeSum q) (WD_row m c b))
  have hp : @Eq EReal (popV (m ((c : Thread nD τ).loc main_arg4)) (ix2 b n)) (popSum (g m c b n)) := popV_at _ b n
  unfold ipOut refIpS
  rw [hd, hs, hp, show @Eq EReal (VL m c (ix1 b)) _ from VL_at m c b, show @Eq EReal (DL m c (ix1 b)) _ from DL_at m c b]

/-! ## The six results -/

/-- The masked inner products. -/
theorem ip_all (c : Dev nD) (b : Fin 80) (n : Fin 2560) :
    @Eq EReal (ipM (m ((c : Thread nD τ).loc main_arg7)) (IP m c) (ix2 b n)) (ipRes (x0 m c) (x1 m c) (x2 m c) (x3 m c) (g m c) (oo m c) (cnt m c) b n) :=
  (ipM_at _ _ b n).trans (congrArg (fun v : EReal => keepS (BitVec.ofNat 32 n) (cnt m c b) v) (IP_at m c b n))
/-- The masked distances. -/
theorem dist_all (c : Dev nD) (b : Fin 80) (n : Fin 2560) :
    @Eq EReal (distM (m ((c : Thread nD τ).loc main_arg5)) (m ((c : Thread nD τ).loc main_arg7)) (NQ m c) (IP m c) (ix2 b n))
      (distRes (x0 m c) (x1 m c) (x2 m c) (x3 m c) (g m c) (nrm m c) (oo m c) (cnt m c) b n) :=
  (distM_at _ _ _ _ b n).trans (congrArg₂ (fun q v : EReal => keepS (BitVec.ofNat 32 n) (cnt m c b) (distS (nrm m c b n) q v))
    (NQ_at m c b) (IP_at m c b n))
/-- The masked bounds. -/
theorem bound_all (c : Dev nD) (b : Fin 80) (n : Fin 2560) :
    @Eq EReal (boundM (m ((c : Thread nD τ).loc main_arg5)) (m ((c : Thread nD τ).loc main_arg6)) (m ((c : Thread nD τ).loc main_arg7)) (NQ m c) (ix2 b n))
      (boundRes (x0 m c) (x1 m c) (nrm m c) (oo m c) (cnt m c) b n) :=
  (boundM_at _ _ _ _ b n).trans (congrArg (fun q : EReal => keepS (BitVec.ofNat 32 n) (cnt m c b) (boundS (nrm m c b n) q (oo m c b n)))
    (NQ_at m c b))
/-- The eight-bit codes. -/
theorem code_all (c : Dev nD) (b : Fin 80) (d : Fin 256) :
    @Eq (BitVec 8) (codeM (WD m c) (ix2 b d)) (codeRes (x0 m c) (x1 m c) (x2 m c) (x3 m c) b d) :=
  (codeM_at _ b d).trans (congrArg (fun w : BitVec 32 => BitVec.setWidth 8 w) (WD_at m c b d))

/-- The run of the reference: its six results as functions of the arguments, and the arguments unchanged. -/
theorem run_spec :
    θ_run defs (onTc (τ := τ) (main (F := Ideal))) ⟨m, fun _ => 0, ρ⟩ fun r => ∀ c : Dev nD,
      r.2.mem ((c.tc : Thread nD τ).loc main_v106) = distM (m ((c : Thread nD τ).loc main_arg5)) (m ((c : Thread nD τ).loc main_arg7)) (NQ m c) (IP m c)
      ∧ r.2.mem ((c.tc : Thread nD τ).loc main_v107) = boundM (m ((c : Thread nD τ).loc main_arg5)) (m ((c : Thread nD τ).loc main_arg6)) (m ((c : Thread nD τ).loc main_arg7)) (NQ m c)
      ∧ r.2.mem ((c.tc : Thread nD τ).loc main_v108) = ipM (m ((c : Thread nD τ).loc main_arg7)) (IP m c)
      ∧ r.2.mem ((c.tc : Thread nD τ).loc main_v26_0) = codeM (WD m c)
      ∧ r.2.mem ((c.tc : Thread nD τ).loc main_v26_1) = DL m c
      ∧ r.2.mem ((c.tc : Thread nD τ).loc main_v26_2) = VL m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => by
    obtain ⟨h0, h1, h2, h3, h4, h5, hr⟩ := h c
    exact ⟨h0.trans (by unfold Cert.ReferenceIdeal.Value.res_main_v106 distM IP ipV dotV popV csV WD wordV DL dlV VL vlV ROT rotV NQ nqV; simp only [id_eq] <;> rfl),
      h1.trans (by unfold boundM NQ nqV; rfl),
      h2.trans (by unfold Cert.ReferenceIdeal.Value.res_main_v108 ipM IP ipV dotV popV csV WD wordV DL dlV VL vlV ROT rotV NQ nqV; simp only [id_eq] <;> rfl),
      h3.trans (by unfold Cert.ReferenceIdeal.Value.res_main_v26_0 codeM WD wordV DL dlV VL vlV ROT rotV NQ nqV; simp only [id_eq] <;> rfl),
      h4.trans (by unfold DL dlV VL vlV ROT rotV NQ nqV; simp only [id_eq] <;> rfl),
      h5.trans (by unfold VL vlV ROT rotV NQ nqV; simp only [id_eq] <;> rfl), hr⟩)
    (Cert.ReferenceIdeal.Value.run (F := Ideal) m ρ)

end Cert.ReferenceIdeal.Spec
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Glue
public import proofs.«01_k».proof.Proof.RefSpec
public import Idealize.ShloMosaic.Adequacy
public import Idealize.ShloMosaic.Init

@[expose] public section

noncomputable section

namespace Cert.Proof

open Idealize.ShloMosaic Idealize.ShloMosaic.TcCoe Idealize.SL.Sem Cert.Kernel

/-- The idealised kernel and the reference end with equal results. -/
theorem algebraic_holds : @Cert.algebraic_KernelIdeal_ReferenceIdeal Cert.KernelIdeal.Gen.facts Cert.ReferenceIdeal.Gen.facts := by
  intro m ρ m' ρ' _ hagree
  refine ⟨fun c => Cert.KernelIdeal.Gen.W4 m ρ c Cert.KernelIdeal.main_v12_0, fun c => Cert.KernelIdeal.Gen.W4 m ρ c Cert.KernelIdeal.main_v12_1,
    fun c => Cert.KernelIdeal.Gen.W4 m ρ c Cert.KernelIdeal.main_v12_2, fun c => Cert.KernelIdeal.Gen.W4 m ρ c Cert.KernelIdeal.main_v1_0,
    fun c => Cert.KernelIdeal.Gen.W4 m ρ c Cert.KernelIdeal.main_v1_1, fun c => Cert.KernelIdeal.Gen.W4 m ρ c Cert.KernelIdeal.main_v1_2,
    Cert.KernelIdeal.Value.run (F := Ideal) m ρ, ?_⟩
  refine (θ_run Cert.ReferenceIdeal.defs _ _).mono (fun r h c => ?_) (Cert.ReferenceIdeal.Spec.run_spec m' ρ')
  obtain ⟨h0, h1, h2, h3, h4, h5, hargs⟩ := h c
  obtain ⟨a0, a1, a2, a3, a4, a5, a6, a7⟩ := hagree c
  have e0 : Cert.ReferenceIdeal.Spec.x0 m' c = Cert.KernelIdeal.Value.x0 m c := funext fun b => funext fun d => congrFun a0 (ValueIdx.ix2 b d)
  have e1 : Cert.ReferenceIdeal.Spec.x1 m' c = Cert.KernelIdeal.Value.x1 m c := funext fun d => congrFun a1 (ValueIdx.ix1 d)
  have e2 : Cert.ReferenceIdeal.Spec.x2 m' c = Cert.KernelIdeal.Value.x2 m c := funext fun b => funext fun d => congrFun a2 (ValueIdx.ix2 b d)
  have e3 : Cert.ReferenceIdeal.Spec.x3 m' c = Cert.KernelIdeal.Value.x3 m c := funext fun b => funext fun d => congrFun a3 (ValueIdx.ix2 b d)
  have e4 : Cert.ReferenceIdeal.Spec.g m' c = Cert.KernelIdeal.Value.g m c := funext fun b => funext fun n => funext fun w => congrFun a4 (ValueIdx.ix3 b n w)
  have e5 : Cert.ReferenceIdeal.Spec.nrm m' c = Cert.KernelIdeal.Value.nrm m c := funext fun b => funext fun n => congrFun a5 (ValueIdx.ix2 b n)
  have e6 : Cert.ReferenceIdeal.Spec.oo m' c = Cert.KernelIdeal.Value.oo m c := funext fun b => funext fun n => congrFun a6 (ValueIdx.ix2 b n)
  have e7 : Cert.ReferenceIdeal.Spec.cnt m' c = Cert.KernelIdeal.Value.cnt m c := funext fun b => congrFun a7 (ValueIdx.ix1 b)
  refine ⟨h0.trans ?_, h1.trans ?_, h2.trans ?_, h3.trans ?_, h4.trans ?_, h5.trans ?_, hargs⟩
  · refine Eq.trans ?_ (Cert.KernelIdeal.Value.k_dist m ρ c).symm
    rw [← e0, ← e1, ← e2, ← e3, ← e4, ← e5, ← e6, ← e7]
    exact funext fun i => (congrArg _ (ValueIdx.eq_ix2 i)).trans (Cert.ReferenceIdeal.Spec.dist_all m' c (i 0) (i 1))
  · refine Eq.trans ?_ (Cert.KernelIdeal.Value.k_bound m ρ c).symm
    rw [← e0, ← e1, ← e5, ← e6, ← e7]
    exact funext fun i => (congrArg _ (ValueIdx.eq_ix2 i)).trans (Cert.ReferenceIdeal.Spec.bound_all m' c (i 0) (i 1))
  · refine Eq.trans ?_ (Cert.KernelIdeal.Value.k_ip m ρ c).symm
    rw [← e0, ← e1, ← e2, ← e3, ← e4, ← e6, ← e7]
    exact funext fun i => (congrArg _ (ValueIdx.eq_ix2 i)).trans (Cert.ReferenceIdeal.Spec.ip_all m' c (i 0) (i 1))
  · refine Eq.trans ?_ (Cert.KernelIdeal.Value.k_codes m ρ c).symm
    rw [← e0, ← e1, ← e2, ← e3]
    exact funext fun i => (congrArg _ (ValueIdx.eq_ix2 i)).trans (Cert.ReferenceIdeal.Spec.code_all m' c (i 0) (i 1))
  · refine Eq.trans ?_ (Cert.KernelIdeal.Value.k_delta m ρ c).symm
    rw [← e0, ← e1, ← e2]
    exact funext fun i => (congrArg _ (ValueIdx.eq_ix1 i)).trans (Cert.ReferenceIdeal.Spec.DL_at m' c (i 0))
  · refine Eq.trans ?_ (Cert.KernelIdeal.Value.k_vl m ρ c).symm
    rw [← e0, ← e1, ← e2]
    exact funext fun i => (congrArg _ (ValueIdx.eq_ix1 i)).trans (Cert.ReferenceIdeal.Spec.VL_at m' c (i 0))

/-- Everything claimed. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  fun m ρ _ => (θ_run Cert.ReferenceIdeal.defs _ _).mono (fun r h => ⟨fun c => (h c).2.2.2.2.2.2, sem_eq_zero_of_no_sems (by decide) r.2⟩) (Cert.ReferenceIdeal.Value.run m ρ),
  trivial, algebraic_holds⟩

end Cert.Proof

end
